-- ==== Defs.lean ====
def Pre_MlpDa (m : (ℓ : Loc Cert.MlpDa.nD Cert.MlpDa.τ Cert.MlpDa.sig) → Buf (Elt Bits) ℓ) : Prop :=
  True

def Pre_MlpDaIdeal (m : (ℓ : Loc Cert.MlpDaIdeal.nD Cert.MlpDaIdeal.τ Cert.MlpDaIdeal.sig) → Buf (Elt Ideal) ℓ) : Prop :=
  True

def Pre_MlpDaRefIdeal (m : (ℓ : Loc Cert.MlpDaRefIdeal.nD Cert.MlpDaRefIdeal.τ Cert.MlpDaRefIdeal.sig) → Buf (Elt Ideal) ℓ) : Prop :=
  True

def Pre_MlpDy (m : (ℓ : Loc Cert.MlpDy.nD Cert.MlpDy.τ Cert.MlpDy.sig) → Buf (Elt Bits) ℓ) : Prop :=
  True

def Pre_MlpDyIdeal (m : (ℓ : Loc Cert.MlpDyIdeal.nD Cert.MlpDyIdeal.τ Cert.MlpDyIdeal.sig) → Buf (Elt Ideal) ℓ) : Prop :=
  True

def Pre_MlpDyRefIdeal (m : (ℓ : Loc Cert.MlpDyRefIdeal.nD Cert.MlpDyRefIdeal.τ Cert.MlpDyRefIdeal.sig) → Buf (Elt Ideal) ℓ) : Prop :=
  True

def Pre_DyQkv (m : (ℓ : Loc Cert.DyQkv.nD Cert.DyQkv.τ Cert.DyQkv.sig) → Buf (Elt Bits) ℓ) : Prop :=
  True

def Pre_DyQkvIdeal (m : (ℓ : Loc Cert.DyQkvIdeal.nD Cert.DyQkvIdeal.τ Cert.DyQkvIdeal.sig) → Buf (Elt Ideal) ℓ) : Prop :=
  True

def Pre_DyQkvRefIdeal (m : (ℓ : Loc Cert.DyQkvRefIdeal.nD Cert.DyQkvRefIdeal.τ Cert.DyQkvRefIdeal.sig) → Buf (Elt Ideal) ℓ) : Prop :=
  True

def Pre_DyIn (m : (ℓ : Loc Cert.DyIn.nD Cert.DyIn.τ Cert.DyIn.sig) → Buf (Elt Bits) ℓ) : Prop :=
  True

def Pre_DyInIdeal (m : (ℓ : Loc Cert.DyInIdeal.nD Cert.DyInIdeal.τ Cert.DyInIdeal.sig) → Buf (Elt Ideal) ℓ) : Prop :=
  True

def Pre_DyInRefIdeal (m : (ℓ : Loc Cert.DyInRefIdeal.nD Cert.DyInRefIdeal.τ Cert.DyInRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.2 = (fun _ => 1#1)

def Pre_MlpDwdown (m : (ℓ : Loc Cert.MlpDwdown.nD Cert.MlpDwdown.τ Cert.MlpDwdown.sig) → Buf (Elt Bits) ℓ) : Prop :=
  True

def Pre_MlpDwdownIdeal (m : (ℓ : Loc Cert.MlpDwdownIdeal.nD Cert.MlpDwdownIdeal.τ Cert.MlpDwdownIdeal.sig) → Buf (Elt Ideal) ℓ) : Prop :=
  True

def Pre_MlpDwdownRefIdeal (m : (ℓ : Loc Cert.MlpDwdownRefIdeal.nD Cert.MlpDwdownRefIdeal.τ Cert.MlpDwdownRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjRefIdeal (m : (ℓ : Loc Cert.QkvProjRefIdeal.nD Cert.QkvProjRefIdeal.τ Cert.QkvProjRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def quiescent_MlpDa [hMlpDa : Cert.MlpDa.Facts] : Prop :=
  ∀ (m : (ℓ : Loc Cert.MlpDa.nD Cert.MlpDa.τ Cert.MlpDa.sig) → Buf (Elt Bits) ℓ) (g : Dev Cert.MlpDa.nD → PrngReg), Pre_MlpDa m →
    θ_run (Cert.MlpDa.defs (F := Bits)) (onTc (τ := Cert.MlpDa.τ) (Cert.MlpDa.main (F := Bits))) ⟨m, fun _ => 0, g⟩ (fun r => (∀ c : Dev Cert.MlpDa.nD,
      r.2.mem ((c.tc : Thread Cert.MlpDa.nD Cert.MlpDa.τ).loc Cert.MlpDa.main_arg0) = m ((c.tc : Thread Cert.MlpDa.nD Cert.MlpDa.τ).loc Cert.MlpDa.main_arg0)
      ∧ r.2.mem ((c.tc : Thread Cert.MlpDa.nD Cert.MlpDa.τ).loc Cert.MlpDa.main_arg1) = m ((c.tc : Thread Cert.MlpDa.nD Cert.MlpDa.τ).loc Cert.MlpDa.main_arg1)
      ∧ r.2.mem ((c.tc : Thread Cert.MlpDa.nD Cert.MlpDa.τ).loc Cert.MlpDa.main_arg2) = m ((c.tc : Thread Cert.MlpDa.nD Cert.MlpDa.τ).loc Cert.MlpDa.main_arg2)
      ∧ r.2.mem ((c.tc : Thread Cert.MlpDa.nD Cert.MlpDa.τ).loc Cert.MlpDa.main_arg3) = m ((c.tc : Thread Cert.MlpDa.nD Cert.MlpDa.τ).loc Cert.MlpDa.main_arg3))
      ∧ r.2.sem = fun _ => 0)

def quiescent_MlpDaIdeal [hMlpDaIdeal : Cert.MlpDaIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg), Pre_MlpDaIdeal m →
    θ_run (Cert.MlpDaIdeal.defs (F := Ideal)) (onTc (τ := Cert.MlpDaIdeal.τ) (Cert.MlpDaIdeal.main (F := Ideal))) ⟨m, fun _ => 0, g⟩ (fun r => (∀ c : Dev Cert.MlpDaIdeal.nD,
      r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
      ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
      ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2)
      ∧ r.2.mem ((c.tc : Thread Cert.MlpDaIdeal.nD Cert.MlpDaIdeal.τ).loc Cert.MlpDaIdeal.main_arg3) = m ((c.tc : Thread Cert.MlpDaIdeal.nD Cert.MlpDaIdeal.τ).loc Cert.MlpDaIdeal.main_arg3))
      ∧ r.2.sem = fun _ => 0)

def quiescent_MlpDaRefIdeal [hMlpDaRefIdeal : Cert.MlpDaRefIdeal.Facts] : Prop :=
  ∀ (m : (ℓ : Loc Cert.MlpDaRefIdeal.nD Cert.MlpDaRefIdeal.τ Cert.MlpDaRefIdeal.sig) → Buf (Elt Ideal) ℓ) (g : Dev Cert.MlpDaRefIdeal.nD → PrngReg), Pre_MlpDaRefIdeal m →
    θ_run (Cert.MlpDaRefIdeal.defs (F := Ideal)) (onTc (τ := Cert.MlpDaRefIdeal.τ) (Cert.MlpDaRefIdeal.main (F := Ideal))) ⟨m, fun _ => 0, g⟩ (fun r => (∀ c : Dev Cert.MlpDaRefIdeal.nD,
      r.2.mem ((c.tc : Thread Cert.MlpDaRefIdeal.nD Cert.MlpDaRefIdeal.τ).loc Cert.MlpDaRefIdeal.main_arg0) = m ((c.tc : Thread Cert.MlpDaRefIdeal.nD Cert.MlpDaRefIdeal.τ).loc Cert.MlpDaRefIdeal.main_arg0)
      ∧ r.2.mem ((c.tc : Thread Cert.MlpDaRefIdeal.nD Cert.MlpDaRefIdeal.τ).loc Cert.MlpDaRefIdeal.main_arg1) = m ((c.tc : Thread Cert.MlpDaRefIdeal.nD Cert.MlpDaRefIdeal.τ).loc Cert.MlpDaRefIdeal.main_arg1)
      ∧ r.2.mem ((c.tc : Thread Cert.MlpDaRefIdeal.nD Cert.MlpDaRefIdeal.τ).loc Cert.MlpDaRefIdeal.main_arg2) = m ((c.tc : Thread Cert.MlpDaRefIdeal.nD Cert.MlpDaRefIdeal.τ).loc Cert.MlpDaRefIdeal.main_arg2)
      ∧ r.2.mem ((c.tc : Thread Cert.MlpDaRefIdeal.nD Cert.MlpDaRefIdeal.τ).loc Cert.MlpDaRefIdeal.main_arg3) = m ((c.tc : Thread Cert.MlpDaRefIdeal.nD Cert.MlpDaRefIdeal.τ).loc Cert.MlpDaRefIdeal.main_arg3))
      ∧ r.2.sem = fun _ => 0)

def quiescent_MlpDy [hMlpDy : Cert.MlpDy.Facts] : Prop :=
  ∀ (m : (ℓ : Loc Cert.MlpDy.nD Cert.MlpDy.τ Cert.MlpDy.sig) → Buf (Elt Bits) ℓ) (g : Dev Cert.MlpDy.nD → PrngReg), Pre_MlpDy m →
    θ_run (Cert.MlpDy.defs (F := Bits)) (onTc (τ := Cert.MlpDy.τ) (Cert.MlpDy.main (F := Bits))) ⟨m, fun _ => 0, g⟩ (fun r => (∀ c : Dev Cert.MlpDy.nD,
      r.2.mem ((c.tc : Thread Cert.MlpDy.nD Cert.MlpDy.τ).loc Cert.MlpDy.main_arg0) = m ((c.tc : Thread Cert.MlpDy.nD Cert.MlpDy.τ).loc Cert.MlpDy.main_arg0)
      ∧ r.2.mem ((c.tc : Thread Cert.MlpDy.nD Cert.MlpDy.τ).loc Cert.MlpDy.main_arg1) = m ((c.tc : Thread Cert.MlpDy.nD Cert.MlpDy.τ).loc Cert.MlpDy.main_arg1)
      ∧ r.2.mem ((c.tc : Thread Cert.MlpDy.nD Cert.MlpDy.τ).loc Cert.MlpDy.main_arg2) = m ((c.tc : Thread Cert.MlpDy.nD Cert.MlpDy.τ).loc Cert.MlpDy.main_arg2)
      ∧ r.2.mem ((c.tc : Thread Cert.MlpDy.nD Cert.MlpDy.τ).loc Cert.MlpDy.main_arg3) = m ((c.tc : Thread Cert.MlpDy.nD Cert.MlpDy.τ).loc Cert.MlpDy.main_arg3)
      ∧ r.2.mem ((c.tc : Thread Cert.MlpDy.nD Cert.MlpDy.τ).loc Cert.MlpDy.main_arg4) = m ((c.tc : Thread Cert.MlpDy.nD Cert.MlpDy.τ).loc Cert.MlpDy.main_arg4)
      ∧ r.2.mem ((c.tc : Thread Cert.MlpDy.nD Cert.MlpDy.τ).loc Cert.MlpDy.main_arg5) = m ((c.tc : Thread Cert.MlpDy.nD Cert.MlpDy.τ).loc Cert.MlpDy.main_arg5))
      ∧ r.2.sem = fun _ => 0)

def quiescent_MlpDyIdeal [hMlpDyIdeal : Cert.MlpDyIdeal.Facts] : Prop :=
  ∀ (m : (ℓ : Loc Cert.MlpDyIdeal.nD Cert.MlpDyIdeal.τ Cert.MlpDyIdeal.sig) → Buf (Elt Ideal) ℓ) (g : Dev Cert.MlpDyIdeal.nD → PrngReg), Pre_MlpDyIdeal m →
    θ_run (Cert.MlpDyIdeal.defs (F := Ideal)) (onTc (τ := Cert.MlpDyIdeal.τ) (Cert.MlpDyIdeal.main (F := Ideal))) ⟨m, fun _ => 0, g⟩ (fun r => (∀ c : Dev Cert.MlpDyIdeal.nD,
      r.2.mem ((c.tc : Thread Cert.MlpDyIdeal.nD Cert.MlpDyIdeal.τ).loc Cert.MlpDyIdeal.main_arg0) = m ((c.tc : Thread Cert.MlpDyIdeal.nD Cert.MlpDyIdeal.τ).loc Cert.MlpDyIdeal.main_arg0)
      ∧ r.2.mem ((c.tc : Thread Cert.MlpDyIdeal.nD Cert.MlpDyIdeal.τ).loc Cert.MlpDyIdeal.main_arg1) = m ((c.tc : Thread Cert.MlpDyIdeal.nD Cert.MlpDyIdeal.τ).loc Cert.MlpDyIdeal.main_arg1)
      ∧ r.2.mem ((c.tc : Thread Cert.MlpDyIdeal.nD Cert.MlpDyIdeal.τ).loc Cert.MlpDyIdeal.main_arg2) = m ((c.tc : Thread Cert.MlpDyIdeal.nD Cert.MlpDyIdeal.τ).loc Cert.MlpDyIdeal.main_arg2)
      ∧ r.2.mem ((c.tc : Thread Cert.MlpDyIdeal.nD Cert.MlpDyIdeal.τ).loc Cert.MlpDyIdeal.main_arg3) = m ((c.tc : Thread Cert.MlpDyIdeal.nD Cert.MlpDyIdeal.τ).loc Cert.MlpDyIdeal.main_arg3)
      ∧ r.2.mem ((c.tc : Thread Cert.MlpDyIdeal.nD Cert.MlpDyIdeal.τ).loc Cert.MlpDyIdeal.main_arg4) = m ((c.tc : Thread Cert.MlpDyIdeal.nD Cert.MlpDyIdeal.τ).loc Cert.MlpDyIdeal.main_arg4)
      ∧ r.2.mem ((c.tc : Thread Cert.MlpDyIdeal.nD Cert.MlpDyIdeal.τ).loc Cert.MlpDyIdeal.main_arg5) = m ((c.tc : Thread Cert.MlpDyIdeal.nD Cert.MlpDyIdeal.τ).loc Cert.MlpDyIdeal.main_arg5))
      ∧ r.2.sem = fun _ => 0)

def quiescent_MlpDyRefIdeal [hMlpDyRefIdeal : Cert.MlpDyRefIdeal.Facts] : Prop :=
  ∀ (m : (ℓ : Loc Cert.MlpDyRefIdeal.nD Cert.MlpDyRefIdeal.τ Cert.MlpDyRefIdeal.sig) → Buf (Elt Ideal) ℓ) (g : Dev Cert.MlpDyRefIdeal.nD → PrngReg), Pre_MlpDyRefIdeal m →
    θ_run (Cert.MlpDyRefIdeal.defs (F := Ideal)) (onTc (τ := Cert.MlpDyRefIdeal.τ) (Cert.MlpDyRefIdeal.main (F := Ideal))) ⟨m, fun _ => 0, g⟩ (fun r => (∀ c : Dev Cert.MlpDyRefIdeal.nD,
      r.2.mem ((c.tc : Thread Cert.MlpDyRefIdeal.nD Cert.MlpDyRefIdeal.τ).loc Cert.MlpDyRefIdeal.main_arg0) = m ((c.tc : Thread Cert.MlpDyRefIdeal.nD Cert.MlpDyRefIdeal.τ).loc Cert.MlpDyRefIdeal.main_arg0)
      ∧ r.2.mem ((c.tc : Thread Cert.MlpDyRefIdeal.nD Cert.MlpDyRefIdeal.τ).loc Cert.MlpDyRefIdeal.main_arg1) = m ((c.tc : Thread Cert.MlpDyRefIdeal.nD Cert.MlpDyRefIdeal.τ).loc Cert.MlpDyRefIdeal.main_arg1)
      ∧ r.2.mem ((c.tc : Thread Cert.MlpDyRefIdeal.nD Cert.MlpDyRefIdeal.τ).loc Cert.MlpDyRefIdeal.main_arg2) = m ((c.tc : Thread Cert.MlpDyRefIdeal.nD Cert.MlpDyRefIdeal.τ).loc Cert.MlpDyRefIdeal.main_arg2)
      ∧ r.2.mem ((c.tc : Thread Cert.MlpDyRefIdeal.nD Cert.MlpDyRefIdeal.τ).loc Cert.MlpDyRefIdeal.main_arg3) = m ((c.tc : Thread Cert.MlpDyRefIdeal.nD Cert.MlpDyRefIdeal.τ).loc Cert.MlpDyRefIdeal.main_arg3)
      ∧ r.2.mem ((c.tc : Thread Cert.MlpDyRefIdeal.nD Cert.MlpDyRefIdeal.τ).loc Cert.MlpDyRefIdeal.main_arg4) = m ((c.tc : Thread Cert.MlpDyRefIdeal.nD Cert.MlpDyRefIdeal.τ).loc Cert.MlpDyRefIdeal.main_arg4)
      ∧ r.2.mem ((c.tc : Thread Cert.MlpDyRefIdeal.nD Cert.MlpDyRefIdeal.τ).loc Cert.MlpDyRefIdeal.main_arg5) = m ((c.tc : Thread Cert.MlpDyRefIdeal.nD Cert.MlpDyRefIdeal.τ).loc Cert.MlpDyRefIdeal.main_arg5))
      ∧ r.2.sem = fun _ => 0)

def quiescent_DyQkv [hDyQkv : Cert.DyQkv.Facts] : Prop :=
  ∀ (m : (ℓ : Loc Cert.DyQkv.nD Cert.DyQkv.τ Cert.DyQkv.sig) → Buf (Elt Bits) ℓ) (g : Dev Cert.DyQkv.nD → PrngReg), Pre_DyQkv m →
    θ_run (Cert.DyQkv.defs (F := Bits)) (onTc (τ := Cert.DyQkv.τ) (Cert.DyQkv.main (F := Bits))) ⟨m, fun _ => 0, g⟩ (fun r => (∀ c : Dev Cert.DyQkv.nD,
      r.2.mem ((c.tc : Thread Cert.DyQkv.nD Cert.DyQkv.τ).loc Cert.DyQkv.main_arg0) = m ((c.tc : Thread Cert.DyQkv.nD Cert.DyQkv.τ).loc Cert.DyQkv.main_arg0)
      ∧ r.2.mem ((c.tc : Thread Cert.DyQkv.nD Cert.DyQkv.τ).loc Cert.DyQkv.main_arg1) = m ((c.tc : Thread Cert.DyQkv.nD Cert.DyQkv.τ).loc Cert.DyQkv.main_arg1)
      ∧ r.2.mem ((c.tc : Thread Cert.DyQkv.nD Cert.DyQkv.τ).loc Cert.DyQkv.main_arg2) = m ((c.tc : Thread Cert.DyQkv.nD Cert.DyQkv.τ).loc Cert.DyQkv.main_arg2)
      ∧ r.2.mem ((c.tc : Thread Cert.DyQkv.nD Cert.DyQkv.τ).loc Cert.DyQkv.main_arg3) = m ((c.tc : Thread Cert.DyQkv.nD Cert.DyQkv.τ).loc Cert.DyQkv.main_arg3)
      ∧ r.2.mem ((c.tc : Thread Cert.DyQkv.nD Cert.DyQkv.τ).loc Cert.DyQkv.main_arg4) = m ((c.tc : Thread Cert.DyQkv.nD Cert.DyQkv.τ).loc Cert.DyQkv.main_arg4))
      ∧ r.2.sem = fun _ => 0)

def quiescent_DyQkvIdeal [hDyQkvIdeal : Cert.DyQkvIdeal.Facts] : Prop :=
  ∀ (m : (ℓ : Loc Cert.DyQkvIdeal.nD Cert.DyQkvIdeal.τ Cert.DyQkvIdeal.sig) → Buf (Elt Ideal) ℓ) (g : Dev Cert.DyQkvIdeal.nD → PrngReg), Pre_DyQkvIdeal m →
    θ_run (Cert.DyQkvIdeal.defs (F := Ideal)) (onTc (τ := Cert.DyQkvIdeal.τ) (Cert.DyQkvIdeal.main (F := Ideal))) ⟨m, fun _ => 0, g⟩ (fun r => (∀ c : Dev Cert.DyQkvIdeal.nD,
      r.2.mem ((c.tc : Thread Cert.DyQkvIdeal.nD Cert.DyQkvIdeal.τ).loc Cert.DyQkvIdeal.main_arg0) = m ((c.tc : Thread Cert.DyQkvIdeal.nD Cert.DyQkvIdeal.τ).loc Cert.DyQkvIdeal.main_arg0)
      ∧ r.2.mem ((c.tc : Thread Cert.DyQkvIdeal.nD Cert.DyQkvIdeal.τ).loc Cert.DyQkvIdeal.main_arg1) = m ((c.tc : Thread Cert.DyQkvIdeal.nD Cert.DyQkvIdeal.τ).loc Cert.DyQkvIdeal.main_arg1)
      ∧ r.2.mem ((c.tc : Thread Cert.DyQkvIdeal.nD Cert.DyQkvIdeal.τ).loc Cert.DyQkvIdeal.main_arg2) = m ((c.tc : Thread Cert.DyQkvIdeal.nD Cert.DyQkvIdeal.τ).loc Cert.DyQkvIdeal.main_arg2)
      ∧ r.2.mem ((c.tc : Thread Cert.DyQkvIdeal.nD Cert.DyQkvIdeal.τ).loc Cert.DyQkvIdeal.main_arg3) = m ((c.tc : Thread Cert.DyQkvIdeal.nD Cert.DyQkvIdeal.τ).loc Cert.DyQkvIdeal.main_arg3)
      ∧ r.2.mem ((c.tc : Thread Cert.DyQkvIdeal.nD Cert.DyQkvIdeal.τ).loc Cert.DyQkvIdeal.main_arg4) = m ((c.tc : Thread Cert.DyQkvIdeal.nD Cert.DyQkvIdeal.τ).loc Cert.DyQkvIdeal.main_arg4))
      ∧ r.2.sem = fun _ => 0)

def quiescent_DyQkvRefIdeal [hDyQkvRefIdeal : Cert.DyQkvRefIdeal.Facts] : Prop :=
  ∀ (m : (ℓ : Loc Cert.DyQkvRefIdeal.nD Cert.DyQkvRefIdeal.τ Cert.DyQkvRefIdeal.sig) → Buf (Elt Ideal) ℓ) (g : Dev Cert.DyQkvRefIdeal.nD → PrngReg), Pre_DyQkvRefIdeal m →
    θ_run (Cert.DyQkvRefIdeal.defs (F := Ideal)) (onTc (τ := Cert.DyQkvRefIdeal.τ) (Cert.DyQkvRefIdeal.main (F := Ideal))) ⟨m, fun _ => 0, g⟩ (fun r => (∀ c : Dev Cert.DyQkvRefIdeal.nD,
      r.2.mem ((c.tc : Thread Cert.DyQkvRefIdeal.nD Cert.DyQkvRefIdeal.τ).loc Cert.DyQkvRefIdeal.main_arg0) = m ((c.tc : Thread Cert.DyQkvRefIdeal.nD Cert.DyQkvRefIdeal.τ).loc Cert.DyQkvRefIdeal.main_arg0)
      ∧ r.2.mem ((c.tc : Thread Cert.DyQkvRefIdeal.nD Cert.DyQkvRefIdeal.τ).loc Cert.DyQkvRefIdeal.main_arg1) = m ((c.tc : Thread Cert.DyQkvRefIdeal.nD Cert.DyQkvRefIdeal.τ).loc Cert.DyQkvRefIdeal.main_arg1)
      ∧ r.2.mem ((c.tc : Thread Cert.DyQkvRefIdeal.nD Cert.DyQkvRefIdeal.τ).loc Cert.DyQkvRefIdeal.main_arg2) = m ((c.tc : Thread Cert.DyQkvRefIdeal.nD Cert.DyQkvRefIdeal.τ).loc Cert.DyQkvRefIdeal.main_arg2)
      ∧ r.2.mem ((c.tc : Thread Cert.DyQkvRefIdeal.nD Cert.DyQkvRefIdeal.τ).loc Cert.DyQkvRefIdeal.main_arg3) = m ((c.tc : Thread Cert.DyQkvRefIdeal.nD Cert.DyQkvRefIdeal.τ).loc Cert.DyQkvRefIdeal.main_arg3)
      ∧ r.2.mem ((c.tc : Thread Cert.DyQkvRefIdeal.nD Cert.DyQkvRefIdeal.τ).loc Cert.DyQkvRefIdeal.main_arg4) = m ((c.tc : Thread Cert.DyQkvRefIdeal.nD Cert.DyQkvRefIdeal.τ).loc Cert.DyQkvRefIdeal.main_arg4))
      ∧ r.2.sem = fun _ => 0)

def quiescent_DyIn [hDyIn : Cert.DyIn.Facts] : Prop :=
  ∀ (m : (ℓ : Loc Cert.DyIn.nD Cert.DyIn.τ Cert.DyIn.sig) → Buf (Elt Bits) ℓ) (g : Dev Cert.DyIn.nD → PrngReg), Pre_DyIn m →
    θ_run (Cert.DyIn.defs (F := Bits)) (onTc (τ := Cert.DyIn.τ) (Cert.DyIn.main (F := Bits))) ⟨m, fun _ => 0, g⟩ (fun r => (∀ c : Dev Cert.DyIn.nD,
      r.2.mem ((c.tc : Thread Cert.DyIn.nD Cert.DyIn.τ).loc Cert.DyIn.main_arg0) = m ((c.tc : Thread Cert.DyIn.nD Cert.DyIn.τ).loc Cert.DyIn.main_arg0)
      ∧ r.2.mem ((c.tc : Thread Cert.DyIn.nD Cert.DyIn.τ).loc Cert.DyIn.main_arg1) = m ((c.tc : Thread Cert.DyIn.nD Cert.DyIn.τ).loc Cert.DyIn.main_arg1)
      ∧ r.2.mem ((c.tc : Thread Cert.DyIn.nD Cert.DyIn.τ).loc Cert.DyIn.main_arg2) = m ((c.tc : Thread Cert.DyIn.nD Cert.DyIn.τ).loc Cert.DyIn.main_arg2)
      ∧ r.2.mem ((c.tc : Thread Cert.DyIn.nD Cert.DyIn.τ).loc Cert.DyIn.main_arg3) = m ((c.tc : Thread Cert.DyIn.nD Cert.DyIn.τ).loc Cert.DyIn.main_arg3)
      ∧ r.2.mem ((c.tc : Thread Cert.DyIn.nD Cert.DyIn.τ).loc Cert.DyIn.main_arg4) = m ((c.tc : Thread Cert.DyIn.nD Cert.DyIn.τ).loc Cert.DyIn.main_arg4))
      ∧ r.2.sem = fun _ => 0)

def quiescent_DyInIdeal [hDyInIdeal : Cert.DyInIdeal.Facts] : Prop :=
  ∀ (m : (ℓ : Loc Cert.DyInIdeal.nD Cert.DyInIdeal.τ Cert.DyInIdeal.sig) → Buf (Elt Ideal) ℓ) (g : Dev Cert.DyInIdeal.nD → PrngReg), Pre_DyInIdeal m →
    θ_run (Cert.DyInIdeal.defs (F := Ideal)) (onTc (τ := Cert.DyInIdeal.τ) (Cert.DyInIdeal.main (F := Ideal))) ⟨m, fun _ => 0, g⟩ (fun r => (∀ c : Dev Cert.DyInIdeal.nD,
      r.2.mem ((c.tc : Thread Cert.DyInIdeal.nD Cert.DyInIdeal.τ).loc Cert.DyInIdeal.main_arg0) = m ((c.tc : Thread Cert.DyInIdeal.nD Cert.DyInIdeal.τ).loc Cert.DyInIdeal.main_arg0)
      ∧ r.2.mem ((c.tc : Thread Cert.DyInIdeal.nD Cert.DyInIdeal.τ).loc Cert.DyInIdeal.main_arg1) = m ((c.tc : Thread Cert.DyInIdeal.nD Cert.DyInIdeal.τ).loc Cert.DyInIdeal.main_arg1)
      ∧ r.2.mem ((c.tc : Thread Cert.DyInIdeal.nD Cert.DyInIdeal.τ).loc Cert.DyInIdeal.main_arg2) = m ((c.tc : Thread Cert.DyInIdeal.nD Cert.DyInIdeal.τ).loc Cert.DyInIdeal.main_arg2)
      ∧ r.2.mem ((c.tc : Thread Cert.DyInIdeal.nD Cert.DyInIdeal.τ).loc Cert.DyInIdeal.main_arg3) = m ((c.tc : Thread Cert.DyInIdeal.nD Cert.DyInIdeal.τ).loc Cert.DyInIdeal.main_arg3)
      ∧ r.2.mem ((c.tc : Thread Cert.DyInIdeal.nD Cert.DyInIdeal.τ).loc Cert.DyInIdeal.main_arg4) = m ((c.tc : Thread Cert.DyInIdeal.nD Cert.DyInIdeal.τ).loc Cert.DyInIdeal.main_arg4))
      ∧ r.2.sem = fun _ => 0)

def quiescent_DyInRefIdeal [hDyInRefIdeal : Cert.DyInRefIdeal.Facts] : Prop :=
  ∀ (m : (ℓ : Loc Cert.DyInRefIdeal.nD Cert.DyInRefIdeal.τ Cert.DyInRefIdeal.sig) → Buf (Elt Ideal) ℓ) (g : Dev Cert.DyInRefIdeal.nD → PrngReg), Pre_DyInRefIdeal m →
    θ_run (Cert.DyInRefIdeal.defs (F := Ideal)) (onTc (τ := Cert.DyInRefIdeal.τ) (Cert.DyInRefIdeal.main (F := Ideal))) ⟨m, fun _ => 0, g⟩ (fun r => (∀ c : Dev Cert.DyInRefIdeal.nD,
      r.2.mem ((c.tc : Thread Cert.DyInRefIdeal.nD Cert.DyInRefIdeal.τ).loc Cert.DyInRefIdeal.main_arg0) = m ((c.tc : Thread Cert.DyInRefIdeal.nD Cert.DyInRefIdeal.τ).loc Cert.DyInRefIdeal.main_arg0)
      ∧ r.2.mem ((c.tc : Thread Cert.DyInRefIdeal.nD Cert.DyInRefIdeal.τ).loc Cert.DyInRefIdeal.main_arg1) = m ((c.tc : Thread Cert.DyInRefIdeal.nD Cert.DyInRefIdeal.τ).loc Cert.DyInRefIdeal.main_arg1)
      ∧ r.2.mem ((c.tc : Thread Cert.DyInRefIdeal.nD Cert.DyInRefIdeal.τ).loc Cert.DyInRefIdeal.main_arg2) = m ((c.tc : Thread Cert.DyInRefIdeal.nD Cert.DyInRefIdeal.τ).loc Cert.DyInRefIdeal.main_arg2)
      ∧ r.2.mem ((c.tc : Thread Cert.DyInRefIdeal.nD Cert.DyInRefIdeal.τ).loc Cert.DyInRefIdeal.main_arg3) = m ((c.tc : Thread Cert.DyInRefIdeal.nD Cert.DyInRefIdeal.τ).loc Cert.DyInRefIdeal.main_arg3)
      ∧ r.2.mem ((c.tc : Thread Cert.DyInRefIdeal.nD Cert.DyInRefIdeal.τ).loc Cert.DyInRefIdeal.main_arg4) = m ((c.tc : Thread Cert.DyInRefIdeal.nD Cert.DyInRefIdeal.τ).loc Cert.DyInRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_MlpDwdown [hMlpDwdown : Cert.MlpDwdown.Facts] : Prop :=
  ∀ (m : (ℓ : Loc Cert.MlpDwdown.nD Cert.MlpDwdown.τ Cert.MlpDwdown.sig) → Buf (Elt Bits) ℓ) (g : Dev Cert.MlpDwdown.nD → PrngReg), Pre_MlpDwdown m →
    θ_run (Cert.MlpDwdown.defs (F := Bits)) (onTc (τ := Cert.MlpDwdown.τ) (Cert.MlpDwdown.main (F := Bits))) ⟨m, fun _ => 0, g⟩ (fun r => (∀ c : Dev Cert.MlpDwdown.nD,
      r.2.mem ((c.tc : Thread Cert.MlpDwdown.nD Cert.MlpDwdown.τ).loc Cert.MlpDwdown.main_arg0) = m ((c.tc : Thread Cert.MlpDwdown.nD Cert.MlpDwdown.τ).loc Cert.MlpDwdown.main_arg0)
      ∧ r.2.mem ((c.tc : Thread Cert.MlpDwdown.nD Cert.MlpDwdown.τ).loc Cert.MlpDwdown.main_arg1) = m ((c.tc : Thread Cert.MlpDwdown.nD Cert.MlpDwdown.τ).loc Cert.MlpDwdown.main_arg1)
      ∧ r.2.mem ((c.tc : Thread Cert.MlpDwdown.nD Cert.MlpDwdown.τ).loc Cert.MlpDwdown.main_arg2) = m ((c.tc : Thread Cert.MlpDwdown.nD Cert.MlpDwdown.τ).loc Cert.MlpDwdown.main_arg2)
      ∧ r.2.mem ((c.tc : Thread Cert.MlpDwdown.nD Cert.MlpDwdown.τ).loc Cert.MlpDwdown.main_arg3) = m ((c.tc : Thread Cert.MlpDwdown.nD Cert.MlpDwdown.τ).loc Cert.MlpDwdown.main_arg3))
      ∧ r.2.sem = fun _ => 0)

def quiescent_MlpDwdownIdeal [hMlpDwdownIdeal : Cert.MlpDwdownIdeal.Facts] : Prop :=
  ∀ (m : (ℓ : Loc Cert.MlpDwdownIdeal.nD Cert.MlpDwdownIdeal.τ Cert.MlpDwdownIdeal.sig) → Buf (Elt Ideal) ℓ) (g : Dev Cert.MlpDwdownIdeal.nD → PrngReg), Pre_MlpDwdownIdeal m →
    θ_run (Cert.MlpDwdownIdeal.defs (F := Ideal)) (onTc (τ := Cert.MlpDwdownIdeal.τ) (Cert.MlpDwdownIdeal.main (F := Ideal))) ⟨m, fun _ => 0, g⟩ (fun r => (∀ c : Dev Cert.MlpDwdownIdeal.nD,
      r.2.mem ((c.tc : Thread Cert.MlpDwdownIdeal.nD Cert.MlpDwdownIdeal.τ).loc Cert.MlpDwdownIdeal.main_arg0) = m ((c.tc : Thread Cert.MlpDwdownIdeal.nD Cert.MlpDwdownIdeal.τ).loc Cert.MlpDwdownIdeal.main_arg0)
      ∧ r.2.mem ((c.tc : Thread Cert.MlpDwdownIdeal.nD Cert.MlpDwdownIdeal.τ).loc Cert.MlpDwdownIdeal.main_arg1) = m ((c.tc : Thread Cert.MlpDwdownIdeal.nD Cert.MlpDwdownIdeal.τ).loc Cert.MlpDwdownIdeal.main_arg1)
      ∧ r.2.mem ((c.tc : Thread Cert.MlpDwdownIdeal.nD Cert.MlpDwdownIdeal.τ).loc Cert.MlpDwdownIdeal.main_arg2) = m ((c.tc : Thread Cert.MlpDwdownIdeal.nD Cert.MlpDwdownIdeal.τ).loc Cert.MlpDwdownIdeal.main_arg2)
      ∧ r.2.mem ((c.tc : Thread Cert.MlpDwdownIdeal.nD Cert.MlpDwdownIdeal.τ).loc Cert.MlpDwdownIdeal.main_arg3) = m ((c.tc : Thread Cert.MlpDwdownIdeal.nD Cert.MlpDwdownIdeal.τ).loc Cert.MlpDwdownIdeal.main_arg3))
      ∧ r.2.sem = fun _ => 0)

def quiescent_MlpDwdownRefIdeal [hMlpDwdownRefIdeal : Cert.MlpDwdownRefIdeal.Facts] : Prop :=
  ∀ (m : (ℓ : Loc Cert.MlpDwdownRefIdeal.nD Cert.MlpDwdownRefIdeal.τ Cert.MlpDwdownRefIdeal.sig) → Buf (Elt Ideal) ℓ) (g : Dev Cert.MlpDwdownRefIdeal.nD → PrngReg), Pre_MlpDwdownRefIdeal m →
    θ_run (Cert.MlpDwdownRefIdeal.defs (F := Ideal)) (onTc (τ := Cert.MlpDwdownRefIdeal.τ) (Cert.MlpDwdownRefIdeal.main (F := Ideal))) ⟨m, fun _ => 0, g⟩ (fun r => (∀ c : Dev Cert.MlpDwdownRefIdeal.nD,
      r.2.mem ((c.tc : Thread Cert.MlpDwdownRefIdeal.nD Cert.MlpDwdownRefIdeal.τ).loc Cert.MlpDwdownRefIdeal.main_arg0) = m ((c.tc : Thread Cert.MlpDwdownRefIdeal.nD Cert.MlpDwdownRefIdeal.τ).loc Cert.MlpDwdownRefIdeal.main_arg0)
      ∧ r.2.mem ((c.tc : Thread Cert.MlpDwdownRefIdeal.nD Cert.MlpDwdownRefIdeal.τ).loc Cert.MlpDwdownRefIdeal.main_arg1) = m ((c.tc : Thread Cert.MlpDwdownRefIdeal.nD Cert.MlpDwdownRefIdeal.τ).loc Cert.MlpDwdownRefIdeal.main_arg1)
      ∧ r.2.mem ((c.tc : Thread Cert.MlpDwdownRefIdeal.nD Cert.MlpDwdownRefIdeal.τ).loc Cert.MlpDwdownRefIdeal.main_arg2) = m ((c.tc : Thread Cert.MlpDwdownRefIdeal.nD Cert.MlpDwdownRefIdeal.τ).loc Cert.MlpDwdownRefIdeal.main_arg2)
      ∧ r.2.mem ((c.tc : Thread Cert.MlpDwdownRefIdeal.nD Cert.MlpDwdownRefIdeal.τ).loc Cert.MlpDwdownRefIdeal.main_arg3) = m ((c.tc : Thread Cert.MlpDwdownRefIdeal.nD Cert.MlpDwdownRefIdeal.τ).loc Cert.MlpDwdownRefIdeal.main_arg3))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1)
      ∧ r.2.mem ((c.tc : Thread Cert.QkvProj.nD Cert.QkvProj.τ).loc Cert.QkvProj.main_arg2) = m ((c.tc : Thread Cert.QkvProj.nD Cert.QkvProj.τ).loc Cert.QkvProj.main_arg2))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
      ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2))
      ∧ r.2.sem = fun _ => 0)

def quiescent_QkvProjRefIdeal [hQkvProjRefIdeal : Cert.QkvProjRefIdeal.Facts] : Prop :=
  ∀ (m : (ℓ : Loc Cert.QkvProjRefIdeal.nD Cert.QkvProjRefIdeal.τ Cert.QkvProjRefIdeal.sig) → Buf (Elt Ideal) ℓ) (g : Dev Cert.QkvProjRefIdeal.nD → PrngReg), Pre_QkvProjRefIdeal m →
    θ_run (Cert.QkvProjRefIdeal.defs (F := Ideal)) (onTc (τ := Cert.QkvProjRefIdeal.τ) (Cert.QkvProjRefIdeal.main (F := Ideal))) ⟨m, fun _ => 0, g⟩ (fun r => (∀ c : Dev Cert.QkvProjRefIdeal.nD,
      r.2.mem ((c.tc : Thread Cert.QkvProjRefIdeal.nD Cert.QkvProjRefIdeal.τ).loc Cert.QkvProjRefIdeal.main_arg0) = m ((c.tc : Thread Cert.QkvProjRefIdeal.nD Cert.QkvProjRefIdeal.τ).loc Cert.QkvProjRefIdeal.main_arg0)
      ∧ r.2.mem ((c.tc : Thread Cert.QkvProjRefIdeal.nD Cert.QkvProjRefIdeal.τ).loc Cert.QkvProjRefIdeal.main_arg1) = m ((c.tc : Thread Cert.QkvProjRefIdeal.nD Cert.QkvProjRefIdeal.τ).loc Cert.QkvProjRefIdeal.main_arg1)
      ∧ r.2.mem ((c.tc : Thread Cert.QkvProjRefIdeal.nD Cert.QkvProjRefIdeal.τ).loc Cert.QkvProjRefIdeal.main_arg2) = m ((c.tc : Thread Cert.QkvProjRefIdeal.nD Cert.QkvProjRefIdeal.τ).loc Cert.QkvProjRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def preserves_MlpDa_MlpDaIdeal : Prop :=
  True

def algebraic_MlpDaIdeal_MlpDaRefIdeal [hMlpDaIdeal : Cert.MlpDaIdeal.Facts] [hMlpDaRefIdeal : Cert.MlpDaRefIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg)
    (m' : (ℓ : Loc Cert.MlpDaRefIdeal.nD Cert.MlpDaRefIdeal.τ Cert.MlpDaRefIdeal.sig) → Buf (Elt Ideal) ℓ) (g' : Dev Cert.MlpDaRefIdeal.nD → PrngReg), Pre_MlpDaIdeal m →
    (∀ c : Dev Cert.MlpDaIdeal.nD,
      m' ((c.tc : Thread Cert.MlpDaRefIdeal.nD Cert.MlpDaRefIdeal.τ).loc Cert.MlpDaRefIdeal.main_arg0) = m ((c.tc : Thread Cert.MlpDaIdeal.nD Cert.MlpDaIdeal.τ).loc Cert.MlpDaIdeal.main_arg0)
      ∧ m' ((c.tc : Thread Cert.MlpDaRefIdeal.nD Cert.MlpDaRefIdeal.τ).loc Cert.MlpDaRefIdeal.main_arg1) = m ((c.tc : Thread Cert.MlpDaIdeal.nD Cert.MlpDaIdeal.τ).loc Cert.MlpDaIdeal.main_arg1)
      ∧ m' ((c.tc : Thread Cert.MlpDaRefIdeal.nD Cert.MlpDaRefIdeal.τ).loc Cert.MlpDaRefIdeal.main_arg2) = m ((c.tc : Thread Cert.MlpDaIdeal.nD Cert.MlpDaIdeal.τ).loc Cert.MlpDaIdeal.main_arg2)
      ∧ m' ((c.tc : Thread Cert.MlpDaRefIdeal.nD Cert.MlpDaRefIdeal.τ).loc Cert.MlpDaRefIdeal.main_arg3) = m ((c.tc : Thread Cert.MlpDaIdeal.nD Cert.MlpDaIdeal.τ).loc Cert.MlpDaIdeal.main_arg3)) →
    ∃ (v0 : (c : Dev Cert.MlpDaIdeal.nD) → Buf (Elt Ideal) ((c.tc : Thread Cert.MlpDaIdeal.nD Cert.MlpDaIdeal.τ).loc Cert.MlpDaIdeal.main_v2)),
      θ_run (Cert.MlpDaIdeal.defs (F := Ideal)) (onTc (τ := Cert.MlpDaIdeal.τ) (Cert.MlpDaIdeal.main (F := Ideal))) ⟨m, fun _ => 0, g⟩ (fun r => ∀ c : Dev Cert.MlpDaIdeal.nD,
          r.2.mem ((c.tc : Thread Cert.MlpDaIdeal.nD Cert.MlpDaIdeal.τ).loc Cert.MlpDaIdeal.main_v2) = v0 c
          ∧ r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
          ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
          ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2)
          ∧ r.2.mem ((c.tc : Thread Cert.MlpDaIdeal.nD Cert.MlpDaIdeal.τ).loc Cert.MlpDaIdeal.main_arg3) = m ((c.tc : Thread Cert.MlpDaIdeal.nD Cert.MlpDaIdeal.τ).loc Cert.MlpDaIdeal.main_arg3))
      ∧ θ_run (Cert.MlpDaRefIdeal.defs (F := Ideal)) (onTc (τ := Cert.MlpDaRefIdeal.τ) (Cert.MlpDaRefIdeal.main (F := Ideal))) ⟨m', fun _ => 0, g'⟩ (fun r => ∀ c : Dev Cert.MlpDaRefIdeal.nD,
          r.2.mem ((c.tc : Thread Cert.MlpDaRefIdeal.nD Cert.MlpDaRefIdeal.τ).loc Cert.MlpDaRefIdeal.main_v13) = v0 c
          ∧ r.2.mem ((c.tc : Thread Cert.MlpDaRefIdeal.nD Cert.MlpDaRefIdeal.τ).loc Cert.MlpDaRefIdeal.main_arg0) = m' ((c.tc : Thread Cert.MlpDaRefIdeal.nD Cert.MlpDaRefIdeal.τ).loc Cert.MlpDaRefIdeal.main_arg0)
          ∧ r.2.mem ((c.tc : Thread Cert.MlpDaRefIdeal.nD Cert.MlpDaRefIdeal.τ).loc Cert.MlpDaRefIdeal.main_arg1) = m' ((c.tc : Thread Cert.MlpDaRefIdeal.nD Cert.MlpDaRefIdeal.τ).loc Cert.MlpDaRefIdeal.main_arg1)
          ∧ r.2.mem ((c.tc : Thread Cert.MlpDaRefIdeal.nD Cert.MlpDaRefIdeal.τ).loc Cert.MlpDaRefIdeal.main_arg2) = m' ((c.tc : Thread Cert.MlpDaRefIdeal.nD Cert.MlpDaRefIdeal.τ).loc Cert.MlpDaRefIdeal.main_arg2)
          ∧ r.2.mem ((c.tc : Thread Cert.MlpDaRefIdeal.nD Cert.MlpDaRefIdeal.τ).loc Cert.MlpDaRefIdeal.main_arg3) = m' ((c.tc : Thread Cert.MlpDaRefIdeal.nD Cert.MlpDaRefIdeal.τ).loc Cert.MlpDaRefIdeal.main_arg3))

def preserves_MlpDy_MlpDyIdeal : Prop :=
  True

def algebraic_MlpDyIdeal_MlpDyRefIdeal [hMlpDyIdeal : Cert.MlpDyIdeal.Facts] [hMlpDyRefIdeal : Cert.MlpDyRefIdeal.Facts] : Prop :=
  ∀ (m : (ℓ : Loc Cert.MlpDyIdeal.nD Cert.MlpDyIdeal.τ Cert.MlpDyIdeal.sig) → Buf (Elt Ideal) ℓ) (g : Dev Cert.MlpDyIdeal.nD → PrngReg)
    (m' : (ℓ : Loc Cert.MlpDyRefIdeal.nD Cert.MlpDyRefIdeal.τ Cert.MlpDyRefIdeal.sig) → Buf (Elt Ideal) ℓ) (g' : Dev Cert.MlpDyRefIdeal.nD → PrngReg), Pre_MlpDyIdeal m →
    (∀ c : Dev Cert.MlpDyIdeal.nD,
      m' ((c.tc : Thread Cert.MlpDyRefIdeal.nD Cert.MlpDyRefIdeal.τ).loc Cert.MlpDyRefIdeal.main_arg0) = m ((c.tc : Thread Cert.MlpDyIdeal.nD Cert.MlpDyIdeal.τ).loc Cert.MlpDyIdeal.main_arg0)
      ∧ m' ((c.tc : Thread Cert.MlpDyRefIdeal.nD Cert.MlpDyRefIdeal.τ).loc Cert.MlpDyRefIdeal.main_arg1) = m ((c.tc : Thread Cert.MlpDyIdeal.nD Cert.MlpDyIdeal.τ).loc Cert.MlpDyIdeal.main_arg1)
      ∧ m' ((c.tc : Thread Cert.MlpDyRefIdeal.nD Cert.MlpDyRefIdeal.τ).loc Cert.MlpDyRefIdeal.main_arg2) = m ((c.tc : Thread Cert.MlpDyIdeal.nD Cert.MlpDyIdeal.τ).loc Cert.MlpDyIdeal.main_arg2)
      ∧ m' ((c.tc : Thread Cert.MlpDyRefIdeal.nD Cert.MlpDyRefIdeal.τ).loc Cert.MlpDyRefIdeal.main_arg3) = m ((c.tc : Thread Cert.MlpDyIdeal.nD Cert.MlpDyIdeal.τ).loc Cert.MlpDyIdeal.main_arg3)
      ∧ m' ((c.tc : Thread Cert.MlpDyRefIdeal.nD Cert.MlpDyRefIdeal.τ).loc Cert.MlpDyRefIdeal.main_arg4) = m ((c.tc : Thread Cert.MlpDyIdeal.nD Cert.MlpDyIdeal.τ).loc Cert.MlpDyIdeal.main_arg4)
      ∧ m' ((c.tc : Thread Cert.MlpDyRefIdeal.nD Cert.MlpDyRefIdeal.τ).loc Cert.MlpDyRefIdeal.main_arg5) = m ((c.tc : Thread Cert.MlpDyIdeal.nD Cert.MlpDyIdeal.τ).loc Cert.MlpDyIdeal.main_arg5)) →
    ∃ (v0 : (c : Dev Cert.MlpDyIdeal.nD) → Buf (Elt Ideal) ((c.tc : Thread Cert.MlpDyIdeal.nD Cert.MlpDyIdeal.τ).loc Cert.MlpDyIdeal.main_v8_0)) (v1 : (c : Dev Cert.MlpDyIdeal.nD) → Buf (Elt Ideal) ((c.tc : Thread Cert.MlpDyIdeal.nD Cert.MlpDyIdeal.τ).loc Cert.MlpDyIdeal.main_v8_1)) (v2 : (c : Dev Cert.MlpDyIdeal.nD) → Buf (Elt Ideal) ((c.tc : Thread Cert.MlpDyIdeal.nD Cert.MlpDyIdeal.τ).loc Cert.MlpDyIdeal.main_v8_2)),
      θ_run (Cert.MlpDyIdeal.defs (F := Ideal)) (onTc (τ := Cert.MlpDyIdeal.τ) (Cert.MlpDyIdeal.main (F := Ideal))) ⟨m, fun _ => 0, g⟩ (fun r => ∀ c : Dev Cert.MlpDyIdeal.nD,
          r.2.mem ((c.tc : Thread Cert.MlpDyIdeal.nD Cert.MlpDyIdeal.τ).loc Cert.MlpDyIdeal.main_v8_0) = v0 c
          ∧ r.2.mem ((c.tc : Thread Cert.MlpDyIdeal.nD Cert.MlpDyIdeal.τ).loc Cert.MlpDyIdeal.main_v8_1) = v1 c
          ∧ r.2.mem ((c.tc : Thread Cert.MlpDyIdeal.nD Cert.MlpDyIdeal.τ).loc Cert.MlpDyIdeal.main_v8_2) = v2 c
          ∧ r.2.mem ((c.tc : Thread Cert.MlpDyIdeal.nD Cert.MlpDyIdeal.τ).loc Cert.MlpDyIdeal.main_arg0) = m ((c.tc : Thread Cert.MlpDyIdeal.nD Cert.MlpDyIdeal.τ).loc Cert.MlpDyIdeal.main_arg0)
          ∧ r.2.mem ((c.tc : Thread Cert.MlpDyIdeal.nD Cert.MlpDyIdeal.τ).loc Cert.MlpDyIdeal.main_arg1) = m ((c.tc : Thread Cert.MlpDyIdeal.nD Cert.MlpDyIdeal.τ).loc Cert.MlpDyIdeal.main_arg1)
          ∧ r.2.mem ((c.tc : Thread Cert.MlpDyIdeal.nD Cert.MlpDyIdeal.τ).loc Cert.MlpDyIdeal.main_arg2) = m ((c.tc : Thread Cert.MlpDyIdeal.nD Cert.MlpDyIdeal.τ).loc Cert.MlpDyIdeal.main_arg2)
          ∧ r.2.mem ((c.tc : Thread Cert.MlpDyIdeal.nD Cert.MlpDyIdeal.τ).loc Cert.MlpDyIdeal.main_arg3) = m ((c.tc : Thread Cert.MlpDyIdeal.nD Cert.MlpDyIdeal.τ).loc Cert.MlpDyIdeal.main_arg3)
          ∧ r.2.mem ((c.tc : Thread Cert.MlpDyIdeal.nD Cert.MlpDyIdeal.τ).loc Cert.MlpDyIdeal.main_arg4) = m ((c.tc : Thread Cert.MlpDyIdeal.nD Cert.MlpDyIdeal.τ).loc Cert.MlpDyIdeal.main_arg4)
          ∧ r.2.mem ((c.tc : Thread Cert.MlpDyIdeal.nD Cert.MlpDyIdeal.τ).loc Cert.MlpDyIdeal.main_arg5) = m ((c.tc : Thread Cert.MlpDyIdeal.nD Cert.MlpDyIdeal.τ).loc Cert.MlpDyIdeal.main_arg5))
      ∧ θ_run (Cert.MlpDyRefIdeal.defs (F := Ideal)) (onTc (τ := Cert.MlpDyRefIdeal.τ) (Cert.MlpDyRefIdeal.main (F := Ideal))) ⟨m', fun _ => 0, g'⟩ (fun r => ∀ c : Dev Cert.MlpDyRefIdeal.nD,
          r.2.mem ((c.tc : Thread Cert.MlpDyRefIdeal.nD Cert.MlpDyRefIdeal.τ).loc Cert.MlpDyRefIdeal.main_v41) = v0 c
          ∧ r.2.mem ((c.tc : Thread Cert.MlpDyRefIdeal.nD Cert.MlpDyRefIdeal.τ).loc Cert.MlpDyRefIdeal.main_v45) = v1 c
          ∧ r.2.mem ((c.tc : Thread Cert.MlpDyRefIdeal.nD Cert.MlpDyRefIdeal.τ).loc Cert.MlpDyRefIdeal.main_v46) = v2 c
          ∧ r.2.mem ((c.tc : Thread Cert.MlpDyRefIdeal.nD Cert.MlpDyRefIdeal.τ).loc Cert.MlpDyRefIdeal.main_arg0) = m' ((c.tc : Thread Cert.MlpDyRefIdeal.nD Cert.MlpDyRefIdeal.τ).loc Cert.MlpDyRefIdeal.main_arg0)
          ∧ r.2.mem ((c.tc : Thread Cert.MlpDyRefIdeal.nD Cert.MlpDyRefIdeal.τ).loc Cert.MlpDyRefIdeal.main_arg1) = m' ((c.tc : Thread Cert.MlpDyRefIdeal.nD Cert.MlpDyRefIdeal.τ).loc Cert.MlpDyRefIdeal.main_arg1)
          ∧ r.2.mem ((c.tc : Thread Cert.MlpDyRefIdeal.nD Cert.MlpDyRefIdeal.τ).loc Cert.MlpDyRefIdeal.main_arg2) = m' ((c.tc : Thread Cert.MlpDyRefIdeal.nD Cert.MlpDyRefIdeal.τ).loc Cert.MlpDyRefIdeal.main_arg2)
          ∧ r.2.mem ((c.tc : Thread Cert.MlpDyRefIdeal.nD Cert.MlpDyRefIdeal.τ).loc Cert.MlpDyRefIdeal.main_arg3) = m' ((c.tc : Thread Cert.MlpDyRefIdeal.nD Cert.MlpDyRefIdeal.τ).loc Cert.MlpDyRefIdeal.main_arg3)
          ∧ r.2.mem ((c.tc : Thread Cert.MlpDyRefIdeal.nD Cert.MlpDyRefIdeal.τ).loc Cert.MlpDyRefIdeal.main_arg4) = m' ((c.tc : Thread Cert.MlpDyRefIdeal.nD Cert.MlpDyRefIdeal.τ).loc Cert.MlpDyRefIdeal.main_arg4)
          ∧ r.2.mem ((c.tc : Thread Cert.MlpDyRefIdeal.nD Cert.MlpDyRefIdeal.τ).loc Cert.MlpDyRefIdeal.main_arg5) = m' ((c.tc : Thread Cert.MlpDyRefIdeal.nD Cert.MlpDyRefIdeal.τ).loc Cert.MlpDyRefIdeal.main_arg5))

def preserves_DyQkv_DyQkvIdeal : Prop :=
  True

def algebraic_DyQkvIdeal_DyQkvRefIdeal [hDyQkvIdeal : Cert.DyQkvIdeal.Facts] [hDyQkvRefIdeal : Cert.DyQkvRefIdeal.Facts] : Prop :=
  ∀ (m : (ℓ : Loc Cert.DyQkvIdeal.nD Cert.DyQkvIdeal.τ Cert.DyQkvIdeal.sig) → Buf (Elt Ideal) ℓ) (g : Dev Cert.DyQkvIdeal.nD → PrngReg)
    (m' : (ℓ : Loc Cert.DyQkvRefIdeal.nD Cert.DyQkvRefIdeal.τ Cert.DyQkvRefIdeal.sig) → Buf (Elt Ideal) ℓ) (g' : Dev Cert.DyQkvRefIdeal.nD → PrngReg), Pre_DyQkvIdeal m →
    (∀ c : Dev Cert.DyQkvIdeal.nD,
      m' ((c.tc : Thread Cert.DyQkvRefIdeal.nD Cert.DyQkvRefIdeal.τ).loc Cert.DyQkvRefIdeal.main_arg0) = m ((c.tc : Thread Cert.DyQkvIdeal.nD Cert.DyQkvIdeal.τ).loc Cert.DyQkvIdeal.main_arg0)
      ∧ m' ((c.tc : Thread Cert.DyQkvRefIdeal.nD Cert.DyQkvRefIdeal.τ).loc Cert.DyQkvRefIdeal.main_arg1) = m ((c.tc : Thread Cert.DyQkvIdeal.nD Cert.DyQkvIdeal.τ).loc Cert.DyQkvIdeal.main_arg1)
      ∧ m' ((c.tc : Thread Cert.DyQkvRefIdeal.nD Cert.DyQkvRefIdeal.τ).loc Cert.DyQkvRefIdeal.main_arg2) = m ((c.tc : Thread Cert.DyQkvIdeal.nD Cert.DyQkvIdeal.τ).loc Cert.DyQkvIdeal.main_arg2)
      ∧ m' ((c.tc : Thread Cert.DyQkvRefIdeal.nD Cert.DyQkvRefIdeal.τ).loc Cert.DyQkvRefIdeal.main_arg3) = m ((c.tc : Thread Cert.DyQkvIdeal.nD Cert.DyQkvIdeal.τ).loc Cert.DyQkvIdeal.main_arg3)
      ∧ m' ((c.tc : Thread Cert.DyQkvRefIdeal.nD Cert.DyQkvRefIdeal.τ).loc Cert.DyQkvRefIdeal.main_arg4) = m ((c.tc : Thread Cert.DyQkvIdeal.nD Cert.DyQkvIdeal.τ).loc Cert.DyQkvIdeal.main_arg4)) →
    ∃ (v0 : (c : Dev Cert.DyQkvIdeal.nD) → Buf (Elt Ideal) ((c.tc : Thread Cert.DyQkvIdeal.nD Cert.DyQkvIdeal.τ).loc Cert.DyQkvIdeal.main_v3_0)) (v1 : (c : Dev Cert.DyQkvIdeal.nD) → Buf (Elt Ideal) ((c.tc : Thread Cert.DyQkvIdeal.nD Cert.DyQkvIdeal.τ).loc Cert.DyQkvIdeal.main_v3_1)),
      θ_run (Cert.DyQkvIdeal.defs (F := Ideal)) (onTc (τ := Cert.DyQkvIdeal.τ) (Cert.DyQkvIdeal.main (F := Ideal))) ⟨m, fun _ => 0, g⟩ (fun r => ∀ c : Dev Cert.DyQkvIdeal.nD,
          r.2.mem ((c.tc : Thread Cert.DyQkvIdeal.nD Cert.DyQkvIdeal.τ).loc Cert.DyQkvIdeal.main_v3_0) = v0 c
          ∧ r.2.mem ((c.tc : Thread Cert.DyQkvIdeal.nD Cert.DyQkvIdeal.τ).loc Cert.DyQkvIdeal.main_v3_1) = v1 c
          ∧ r.2.mem ((c.tc : Thread Cert.DyQkvIdeal.nD Cert.DyQkvIdeal.τ).loc Cert.DyQkvIdeal.main_arg0) = m ((c.tc : Thread Cert.DyQkvIdeal.nD Cert.DyQkvIdeal.τ).loc Cert.DyQkvIdeal.main_arg0)
          ∧ r.2.mem ((c.tc : Thread Cert.DyQkvIdeal.nD Cert.DyQkvIdeal.τ).loc Cert.DyQkvIdeal.main_arg1) = m ((c.tc : Thread Cert.DyQkvIdeal.nD Cert.DyQkvIdeal.τ).loc Cert.DyQkvIdeal.main_arg1)
          ∧ r.2.mem ((c.tc : Thread Cert.DyQkvIdeal.nD Cert.DyQkvIdeal.τ).loc Cert.DyQkvIdeal.main_arg2) = m ((c.tc : Thread Cert.DyQkvIdeal.nD Cert.DyQkvIdeal.τ).loc Cert.DyQkvIdeal.main_arg2)
          ∧ r.2.mem ((c.tc : Thread Cert.DyQkvIdeal.nD Cert.DyQkvIdeal.τ).loc Cert.DyQkvIdeal.main_arg3) = m ((c.tc : Thread Cert.DyQkvIdeal.nD Cert.DyQkvIdeal.τ).loc Cert.DyQkvIdeal.main_arg3)
          ∧ r.2.mem ((c.tc : Thread Cert.DyQkvIdeal.nD Cert.DyQkvIdeal.τ).loc Cert.DyQkvIdeal.main_arg4) = m ((c.tc : Thread Cert.DyQkvIdeal.nD Cert.DyQkvIdeal.τ).loc Cert.DyQkvIdeal.main_arg4))
      ∧ θ_run (Cert.DyQkvRefIdeal.defs (F := Ideal)) (onTc (τ := Cert.DyQkvRefIdeal.τ) (Cert.DyQkvRefIdeal.main (F := Ideal))) ⟨m', fun _ => 0, g'⟩ (fun r => ∀ c : Dev Cert.DyQkvRefIdeal.nD,
          r.2.mem ((c.tc : Thread Cert.DyQkvRefIdeal.nD Cert.DyQkvRefIdeal.τ).loc Cert.DyQkvRefIdeal.main_v38) = v0 c
          ∧ r.2.mem ((c.tc : Thread Cert.DyQkvRefIdeal.nD Cert.DyQkvRefIdeal.τ).loc Cert.DyQkvRefIdeal.main_v39) = v1 c
          ∧ r.2.mem ((c.tc : Thread Cert.DyQkvRefIdeal.nD Cert.DyQkvRefIdeal.τ).loc Cert.DyQkvRefIdeal.main_arg0) = m' ((c.tc : Thread Cert.DyQkvRefIdeal.nD Cert.DyQkvRefIdeal.τ).loc Cert.DyQkvRefIdeal.main_arg0)
          ∧ r.2.mem ((c.tc : Thread Cert.DyQkvRefIdeal.nD Cert.DyQkvRefIdeal.τ).loc Cert.DyQkvRefIdeal.main_arg1) = m' ((c.tc : Thread Cert.DyQkvRefIdeal.nD Cert.DyQkvRefIdeal.τ).loc Cert.DyQkvRefIdeal.main_arg1)
          ∧ r.2.mem ((c.tc : Thread Cert.DyQkvRefIdeal.nD Cert.DyQkvRefIdeal.τ).loc Cert.DyQkvRefIdeal.main_arg2) = m' ((c.tc : Thread Cert.DyQkvRefIdeal.nD Cert.DyQkvRefIdeal.τ).loc Cert.DyQkvRefIdeal.main_arg2)
          ∧ r.2.mem ((c.tc : Thread Cert.DyQkvRefIdeal.nD Cert.DyQkvRefIdeal.τ).loc Cert.DyQkvRefIdeal.main_arg3) = m' ((c.tc : Thread Cert.DyQkvRefIdeal.nD Cert.DyQkvRefIdeal.τ).loc Cert.DyQkvRefIdeal.main_arg3)
          ∧ r.2.mem ((c.tc : Thread Cert.DyQkvRefIdeal.nD Cert.DyQkvRefIdeal.τ).loc Cert.DyQkvRefIdeal.main_arg4) = m' ((c.tc : Thread Cert.DyQkvRefIdeal.nD Cert.DyQkvRefIdeal.τ).loc Cert.DyQkvRefIdeal.main_arg4))

def preserves_DyIn_DyInIdeal : Prop :=
  True

def algebraic_DyInIdeal_DyInRefIdeal [hDyInIdeal : Cert.DyInIdeal.Facts] [hDyInRefIdeal : Cert.DyInRefIdeal.Facts] : Prop :=
  ∀ (m : (ℓ : Loc Cert.DyInIdeal.nD Cert.DyInIdeal.τ Cert.DyInIdeal.sig) → Buf (Elt Ideal) ℓ) (g : Dev Cert.DyInIdeal.nD → PrngReg)
    (m' : (ℓ : Loc Cert.DyInRefIdeal.nD Cert.DyInRefIdeal.τ Cert.DyInRefIdeal.sig) → Buf (Elt Ideal) ℓ) (g' : Dev Cert.DyInRefIdeal.nD → PrngReg), Pre_DyInIdeal m →
    (∀ c : Dev Cert.DyInIdeal.nD,
      m' ((c.tc : Thread Cert.DyInRefIdeal.nD Cert.DyInRefIdeal.τ).loc Cert.DyInRefIdeal.main_arg0) = m ((c.tc : Thread Cert.DyInIdeal.nD Cert.DyInIdeal.τ).loc Cert.DyInIdeal.main_arg0)
      ∧ m' ((c.tc : Thread Cert.DyInRefIdeal.nD Cert.DyInRefIdeal.τ).loc Cert.DyInRefIdeal.main_arg1) = m ((c.tc : Thread Cert.DyInIdeal.nD Cert.DyInIdeal.τ).loc Cert.DyInIdeal.main_arg1)
      ∧ m' ((c.tc : Thread Cert.DyInRefIdeal.nD Cert.DyInRefIdeal.τ).loc Cert.DyInRefIdeal.main_arg2) = m ((c.tc : Thread Cert.DyInIdeal.nD Cert.DyInIdeal.τ).loc Cert.DyInIdeal.main_arg2)
      ∧ m' ((c.tc : Thread Cert.DyInRefIdeal.nD Cert.DyInRefIdeal.τ).loc Cert.DyInRefIdeal.main_arg3) = m ((c.tc : Thread Cert.DyInIdeal.nD Cert.DyInIdeal.τ).loc Cert.DyInIdeal.main_arg3)
      ∧ m' ((c.tc : Thread Cert.DyInRefIdeal.nD Cert.DyInRefIdeal.τ).loc Cert.DyInRefIdeal.main_arg4) = m ((c.tc : Thread Cert.DyInIdeal.nD Cert.DyInIdeal.τ).loc Cert.DyInIdeal.main_arg4)) →
    ∃ (v0 : (c : Dev Cert.DyInIdeal.nD) → Buf (Elt Ideal) ((c.tc : Thread Cert.DyInIdeal.nD Cert.DyInIdeal.τ).loc Cert.DyInIdeal.main_v7_0)) (v1 : (c : Dev Cert.DyInIdeal.nD) → Buf (Elt Ideal) ((c.tc : Thread Cert.DyInIdeal.nD Cert.DyInIdeal.τ).loc Cert.DyInIdeal.main_v7_1)),
      θ_run (Cert.DyInIdeal.defs (F := Ideal)) (onTc (τ := Cert.DyInIdeal.τ) (Cert.DyInIdeal.main (F := Ideal))) ⟨m, fun _ => 0, g⟩ (fun r => ∀ c : Dev Cert.DyInIdeal.nD,
          r.2.mem ((c.tc : Thread Cert.DyInIdeal.nD Cert.DyInIdeal.τ).loc Cert.DyInIdeal.main_v7_0) = v0 c
          ∧ r.2.mem ((c.tc : Thread Cert.DyInIdeal.nD Cert.DyInIdeal.τ).loc Cert.DyInIdeal.main_v7_1) = v1 c
          ∧ r.2.mem ((c.tc : Thread Cert.DyInIdeal.nD Cert.DyInIdeal.τ).loc Cert.DyInIdeal.main_arg0) = m ((c.tc : Thread Cert.DyInIdeal.nD Cert.DyInIdeal.τ).loc Cert.DyInIdeal.main_arg0)
          ∧ r.2.mem ((c.tc : Thread Cert.DyInIdeal.nD Cert.DyInIdeal.τ).loc Cert.DyInIdeal.main_arg1) = m ((c.tc : Thread Cert.DyInIdeal.nD Cert.DyInIdeal.τ).loc Cert.DyInIdeal.main_arg1)
          ∧ r.2.mem ((c.tc : Thread Cert.DyInIdeal.nD Cert.DyInIdeal.τ).loc Cert.DyInIdeal.main_arg2) = m ((c.tc : Thread Cert.DyInIdeal.nD Cert.DyInIdeal.τ).loc Cert.DyInIdeal.main_arg2)
          ∧ r.2.mem ((c.tc : Thread Cert.DyInIdeal.nD Cert.DyInIdeal.τ).loc Cert.DyInIdeal.main_arg3) = m ((c.tc : Thread Cert.DyInIdeal.nD Cert.DyInIdeal.τ).loc Cert.DyInIdeal.main_arg3)
          ∧ r.2.mem ((c.tc : Thread Cert.DyInIdeal.nD Cert.DyInIdeal.τ).loc Cert.DyInIdeal.main_arg4) = m ((c.tc : Thread Cert.DyInIdeal.nD Cert.DyInIdeal.τ).loc Cert.DyInIdeal.main_arg4))
      ∧ θ_run (Cert.DyInRefIdeal.defs (F := Ideal)) (onTc (τ := Cert.DyInRefIdeal.τ) (Cert.DyInRefIdeal.main (F := Ideal))) ⟨m', fun _ => 0, g'⟩ (fun r => ∀ c : Dev Cert.DyInRefIdeal.nD,
          r.2.mem ((c.tc : Thread Cert.DyInRefIdeal.nD Cert.DyInRefIdeal.τ).loc Cert.DyInRefIdeal.main_v38) = v0 c
          ∧ r.2.mem ((c.tc : Thread Cert.DyInRefIdeal.nD Cert.DyInRefIdeal.τ).loc Cert.DyInRefIdeal.main_v39) = v1 c
          ∧ r.2.mem ((c.tc : Thread Cert.DyInRefIdeal.nD Cert.DyInRefIdeal.τ).loc Cert.DyInRefIdeal.main_arg0) = m' ((c.tc : Thread Cert.DyInRefIdeal.nD Cert.DyInRefIdeal.τ).loc Cert.DyInRefIdeal.main_arg0)
          ∧ r.2.mem ((c.tc : Thread Cert.DyInRefIdeal.nD Cert.DyInRefIdeal.τ).loc Cert.DyInRefIdeal.main_arg1) = m' ((c.tc : Thread Cert.DyInRefIdeal.nD Cert.DyInRefIdeal.τ).loc Cert.DyInRefIdeal.main_arg1)
          ∧ r.2.mem ((c.tc : Thread Cert.DyInRefIdeal.nD Cert.DyInRefIdeal.τ).loc Cert.DyInRefIdeal.main_arg2) = m' ((c.tc : Thread Cert.DyInRefIdeal.nD Cert.DyInRefIdeal.τ).loc Cert.DyInRefIdeal.main_arg2)
          ∧ r.2.mem ((c.tc : Thread Cert.DyInRefIdeal.nD Cert.DyInRefIdeal.τ).loc Cert.DyInRefIdeal.main_arg3) = m' ((c.tc : Thread Cert.DyInRefIdeal.nD Cert.DyInRefIdeal.τ).loc Cert.DyInRefIdeal.main_arg3)
          ∧ r.2.mem ((c.tc : Thread Cert.DyInRefIdeal.nD Cert.DyInRefIdeal.τ).loc Cert.DyInRefIdeal.main_arg4) = m' ((c.tc : Thread Cert.DyInRefIdeal.nD Cert.DyInRefIdeal.τ).loc Cert.DyInRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v2_0)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v2_0) = v0 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v102) = v0 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_MlpDwdown_MlpDwdownIdeal : Prop :=
  True

def algebraic_MlpDwdownIdeal_MlpDwdownRefIdeal [hMlpDwdownIdeal : Cert.MlpDwdownIdeal.Facts] [hMlpDwdownRefIdeal : Cert.MlpDwdownRefIdeal.Facts] : Prop :=
  ∀ (m : (ℓ : Loc Cert.MlpDwdownIdeal.nD Cert.MlpDwdownIdeal.τ Cert.MlpDwdownIdeal.sig) → Buf (Elt Ideal) ℓ) (g : Dev Cert.MlpDwdownIdeal.nD → PrngReg)
    (m' : (ℓ : Loc Cert.MlpDwdownRefIdeal.nD Cert.MlpDwdownRefIdeal.τ Cert.MlpDwdownRefIdeal.sig) → Buf (Elt Ideal) ℓ) (g' : Dev Cert.MlpDwdownRefIdeal.nD → PrngReg), Pre_MlpDwdownIdeal m →
    (∀ c : Dev Cert.MlpDwdownIdeal.nD,
      m' ((c.tc : Thread Cert.MlpDwdownRefIdeal.nD Cert.MlpDwdownRefIdeal.τ).loc Cert.MlpDwdownRefIdeal.main_arg0) = m ((c.tc : Thread Cert.MlpDwdownIdeal.nD Cert.MlpDwdownIdeal.τ).loc Cert.MlpDwdownIdeal.main_arg0)
      ∧ m' ((c.tc : Thread Cert.MlpDwdownRefIdeal.nD Cert.MlpDwdownRefIdeal.τ).loc Cert.MlpDwdownRefIdeal.main_arg1) = m ((c.tc : Thread Cert.MlpDwdownIdeal.nD Cert.MlpDwdownIdeal.τ).loc Cert.MlpDwdownIdeal.main_arg1)
      ∧ m' ((c.tc : Thread Cert.MlpDwdownRefIdeal.nD Cert.MlpDwdownRefIdeal.τ).loc Cert.MlpDwdownRefIdeal.main_arg2) = m ((c.tc : Thread Cert.MlpDwdownIdeal.nD Cert.MlpDwdownIdeal.τ).loc Cert.MlpDwdownIdeal.main_arg2)
      ∧ m' ((c.tc : Thread Cert.MlpDwdownRefIdeal.nD Cert.MlpDwdownRefIdeal.τ).loc Cert.MlpDwdownRefIdeal.main_arg3) = m ((c.tc : Thread Cert.MlpDwdownIdeal.nD Cert.MlpDwdownIdeal.τ).loc Cert.MlpDwdownIdeal.main_arg3)) →
    ∃ (v0 : (c : Dev Cert.MlpDwdownIdeal.nD) → Buf (Elt Ideal) ((c.tc : Thread Cert.MlpDwdownIdeal.nD Cert.MlpDwdownIdeal.τ).loc Cert.MlpDwdownIdeal.main_v2)),
      θ_run (Cert.MlpDwdownIdeal.defs (F := Ideal)) (onTc (τ := Cert.MlpDwdownIdeal.τ) (Cert.MlpDwdownIdeal.main (F := Ideal))) ⟨m, fun _ => 0, g⟩ (fun r => ∀ c : Dev Cert.MlpDwdownIdeal.nD,
          r.2.mem ((c.tc : Thread Cert.MlpDwdownIdeal.nD Cert.MlpDwdownIdeal.τ).loc Cert.MlpDwdownIdeal.main_v2) = v0 c
          ∧ r.2.mem ((c.tc : Thread Cert.MlpDwdownIdeal.nD Cert.MlpDwdownIdeal.τ).loc Cert.MlpDwdownIdeal.main_arg0) = m ((c.tc : Thread Cert.MlpDwdownIdeal.nD Cert.MlpDwdownIdeal.τ).loc Cert.MlpDwdownIdeal.main_arg0)
          ∧ r.2.mem ((c.tc : Thread Cert.MlpDwdownIdeal.nD Cert.MlpDwdownIdeal.τ).loc Cert.MlpDwdownIdeal.main_arg1) = m ((c.tc : Thread Cert.MlpDwdownIdeal.nD Cert.MlpDwdownIdeal.τ).loc Cert.MlpDwdownIdeal.main_arg1)
          ∧ r.2.mem ((c.tc : Thread Cert.MlpDwdownIdeal.nD Cert.MlpDwdownIdeal.τ).loc Cert.MlpDwdownIdeal.main_arg2) = m ((c.tc : Thread Cert.MlpDwdownIdeal.nD Cert.MlpDwdownIdeal.τ).loc Cert.MlpDwdownIdeal.main_arg2)
          ∧ r.2.mem ((c.tc : Thread Cert.MlpDwdownIdeal.nD Cert.MlpDwdownIdeal.τ).loc Cert.MlpDwdownIdeal.main_arg3) = m ((c.tc : Thread Cert.MlpDwdownIdeal.nD Cert.MlpDwdownIdeal.τ).loc Cert.MlpDwdownIdeal.main_arg3))
      ∧ θ_run (Cert.MlpDwdownRefIdeal.defs (F := Ideal)) (onTc (τ := Cert.MlpDwdownRefIdeal.τ) (Cert.MlpDwdownRefIdeal.main (F := Ideal))) ⟨m', fun _ => 0, g'⟩ (fun r => ∀ c : Dev Cert.MlpDwdownRefIdeal.nD,
          r.2.mem ((c.tc : Thread Cert.MlpDwdownRefIdeal.nD Cert.MlpDwdownRefIdeal.τ).loc Cert.MlpDwdownRefIdeal.main_v6) = v0 c
          ∧ r.2.mem ((c.tc : Thread Cert.MlpDwdownRefIdeal.nD Cert.MlpDwdownRefIdeal.τ).loc Cert.MlpDwdownRefIdeal.main_arg0) = m' ((c.tc : Thread Cert.MlpDwdownRefIdeal.nD Cert.MlpDwdownRefIdeal.τ).loc Cert.MlpDwdownRefIdeal.main_arg0)
          ∧ r.2.mem ((c.tc : Thread Cert.MlpDwdownRefIdeal.nD Cert.MlpDwdownRefIdeal.τ).loc Cert.MlpDwdownRefIdeal.main_arg1) = m' ((c.tc : Thread Cert.MlpDwdownRefIdeal.nD Cert.MlpDwdownRefIdeal.τ).loc Cert.MlpDwdownRefIdeal.main_arg1)
          ∧ r.2.mem ((c.tc : Thread Cert.MlpDwdownRefIdeal.nD Cert.MlpDwdownRefIdeal.τ).loc Cert.MlpDwdownRefIdeal.main_arg2) = m' ((c.tc : Thread Cert.MlpDwdownRefIdeal.nD Cert.MlpDwdownRefIdeal.τ).loc Cert.MlpDwdownRefIdeal.main_arg2)
          ∧ r.2.mem ((c.tc : Thread Cert.MlpDwdownRefIdeal.nD Cert.MlpDwdownRefIdeal.τ).loc Cert.MlpDwdownRefIdeal.main_arg3) = m' ((c.tc : Thread Cert.MlpDwdownRefIdeal.nD Cert.MlpDwdownRefIdeal.τ).loc Cert.MlpDwdownRefIdeal.main_arg3))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)) →
    ∃ (v0 : (c : Dev Cert.MixNormIdeal.nD) → Buf (Elt Ideal) ((c.tc : Thread Cert.MixNormIdeal.nD Cert.MixNormIdeal.τ).loc Cert.MixNormIdeal.main_v1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v1) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v13) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v3_0)) (v1 : (c : Dev Cert.MlpDownIdeal.nD) → Buf (Elt Ideal) ((c.tc : Thread Cert.MlpDownIdeal.nD Cert.MlpDownIdeal.τ).loc Cert.MlpDownIdeal.main_v3_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v3_0) = v0 c
          ∧ r.2.mem ((c.tc : Thread Cert.MlpDownIdeal.nD Cert.MlpDownIdeal.τ).loc Cert.MlpDownIdeal.main_v3_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_v17) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v4) = v0 c
          ∧ r.2.mem ((c.tc : Thread Cert.OProjRefIdeal.nD Cert.OProjRefIdeal.τ).loc Cert.OProjRefIdeal.main_v18) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4))

def preserves_QkvProj_QkvProjIdeal : Prop :=
  True

def algebraic_QkvProjIdeal_QkvProjRefIdeal [hQkvProjIdeal : Cert.QkvProjIdeal.Facts] [hQkvProjRefIdeal : Cert.QkvProjRefIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjRefIdeal.nD Cert.QkvProjRefIdeal.τ Cert.QkvProjRefIdeal.sig) → Buf (Elt Ideal) ℓ) (g' : Dev Cert.QkvProjRefIdeal.nD → PrngReg), Pre_QkvProjIdeal m →
    (∀ c : Dev Cert.QkvProjIdeal.nD,
      m' ((c.tc : Thread Cert.QkvProjRefIdeal.nD Cert.QkvProjRefIdeal.τ).loc Cert.QkvProjRefIdeal.main_arg0) = m ((c.tc : Thread Cert.QkvProjIdeal.nD Cert.QkvProjIdeal.τ).loc Cert.QkvProjIdeal.main_arg0)
      ∧ m' ((c.tc : Thread Cert.QkvProjRefIdeal.nD Cert.QkvProjRefIdeal.τ).loc Cert.QkvProjRefIdeal.main_arg1) = m ((c.tc : Thread Cert.QkvProjIdeal.nD Cert.QkvProjIdeal.τ).loc Cert.QkvProjIdeal.main_arg1)
      ∧ m' ((c.tc : Thread Cert.QkvProjRefIdeal.nD Cert.QkvProjRefIdeal.τ).loc Cert.QkvProjRefIdeal.main_arg2) = m ((c.tc : Thread Cert.QkvProjIdeal.nD Cert.QkvProjIdeal.τ).loc Cert.QkvProjIdeal.main_arg2)) →
    ∃ (v0 : (c : Dev Cert.QkvProjIdeal.nD) → Buf (Elt Ideal) ((c.tc : Thread Cert.QkvProjIdeal.nD Cert.QkvProjIdeal.τ).loc Cert.QkvProjIdeal.main_v3)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v3) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
          ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2))
      ∧ θ_run (Cert.QkvProjRefIdeal.defs (F := Ideal)) (onTc (τ := Cert.QkvProjRefIdeal.τ) (Cert.QkvProjRefIdeal.main (F := Ideal))) ⟨m', fun _ => 0, g'⟩ (fun r => ∀ c : Dev Cert.QkvProjRefIdeal.nD,
          r.2.mem ((c.tc : Thread Cert.QkvProjRefIdeal.nD Cert.QkvProjRefIdeal.τ).loc Cert.QkvProjRefIdeal.main_v3) = v0 c
          ∧ r.2.mem ((c.tc : Thread Cert.QkvProjRefIdeal.nD Cert.QkvProjRefIdeal.τ).loc Cert.QkvProjRefIdeal.main_arg0) = m' ((c.tc : Thread Cert.QkvProjRefIdeal.nD Cert.QkvProjRefIdeal.τ).loc Cert.QkvProjRefIdeal.main_arg0)
          ∧ r.2.mem ((c.tc : Thread Cert.QkvProjRefIdeal.nD Cert.QkvProjRefIdeal.τ).loc Cert.QkvProjRefIdeal.main_arg1) = m' ((c.tc : Thread Cert.QkvProjRefIdeal.nD Cert.QkvProjRefIdeal.τ).loc Cert.QkvProjRefIdeal.main_arg1)
          ∧ r.2.mem ((c.tc : Thread Cert.QkvProjRefIdeal.nD Cert.QkvProjRefIdeal.τ).loc Cert.QkvProjRefIdeal.main_arg2) = m' ((c.tc : Thread Cert.QkvProjRefIdeal.nD Cert.QkvProjRefIdeal.τ).loc Cert.QkvProjRefIdeal.main_arg2))

def preserves_AttnFwd_AttnFwdIdeal : Prop :=
  True

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v1) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v44) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def Claim : Prop :=
  ∃ (hMlpDa : Cert.MlpDa.Facts) (hMlpDaIdeal : Cert.MlpDaIdeal.Facts) (hMlpDaRefIdeal : Cert.MlpDaRefIdeal.Facts) (hMlpDy : Cert.MlpDy.Facts) (hMlpDyIdeal : Cert.MlpDyIdeal.Facts) (hMlpDyRefIdeal : Cert.MlpDyRefIdeal.Facts) (hDyQkv : Cert.DyQkv.Facts) (hDyQkvIdeal : Cert.DyQkvIdeal.Facts) (hDyQkvRefIdeal : Cert.DyQkvRefIdeal.Facts) (hDyIn : Cert.DyIn.Facts) (hDyInIdeal : Cert.DyInIdeal.Facts) (hDyInRefIdeal : Cert.DyInRefIdeal.Facts) (hLoss : Cert.Loss.Facts) (hLossIdeal : Cert.LossIdeal.Facts) (hLossRefIdeal : Cert.LossRefIdeal.Facts) (hAttnBwd : Cert.AttnBwd.Facts) (hAttnBwdIdeal : Cert.AttnBwdIdeal.Facts) (hAttnBwdRefIdeal : Cert.AttnBwdRefIdeal.Facts) (hMlpDwdown : Cert.MlpDwdown.Facts) (hMlpDwdownIdeal : Cert.MlpDwdownIdeal.Facts) (hMlpDwdownRefIdeal : Cert.MlpDwdownRefIdeal.Facts) (hMixNorm : Cert.MixNorm.Facts) (hMixNormIdeal : Cert.MixNormIdeal.Facts) (hMixNormRefIdeal : Cert.MixNormRefIdeal.Facts) (hOutProj : Cert.OutProj.Facts) (hOutProjIdeal : Cert.OutProjIdeal.Facts) (hOutProjRefIdeal : Cert.OutProjRefIdeal.Facts) (hMlpDown : Cert.MlpDown.Facts) (hMlpDownIdeal : Cert.MlpDownIdeal.Facts) (hMlpDownRefIdeal : Cert.MlpDownRefIdeal.Facts) (hOProj : Cert.OProj.Facts) (hOProjIdeal : Cert.OProjIdeal.Facts) (hOProjRefIdeal : Cert.OProjRefIdeal.Facts) (hQkvProj : Cert.QkvProj.Facts) (hQkvProjIdeal : Cert.QkvProjIdeal.Facts) (hQkvProjRefIdeal : Cert.QkvProjRefIdeal.Facts) (hAttnFwd : Cert.AttnFwd.Facts) (hAttnFwdIdeal : Cert.AttnFwdIdeal.Facts) (hAttnFwdRefIdeal : Cert.AttnFwdRefIdeal.Facts) (hPre_finite_attn : Cert.Pre_finite_attn.Facts) (hPre_finite_qk : Cert.Pre_finite_qk.Facts),
    quiescent_MlpDa (hMlpDa := hMlpDa)
    ∧ quiescent_MlpDaIdeal (hMlpDaIdeal := hMlpDaIdeal)
    ∧ quiescent_MlpDaRefIdeal (hMlpDaRefIdeal := hMlpDaRefIdeal)
    ∧ quiescent_MlpDy (hMlpDy := hMlpDy)
    ∧ quiescent_MlpDyIdeal (hMlpDyIdeal := hMlpDyIdeal)
    ∧ quiescent_MlpDyRefIdeal (hMlpDyRefIdeal := hMlpDyRefIdeal)
    ∧ quiescent_DyQkv (hDyQkv := hDyQkv)
    ∧ quiescent_DyQkvIdeal (hDyQkvIdeal := hDyQkvIdeal)
    ∧ quiescent_DyQkvRefIdeal (hDyQkvRefIdeal := hDyQkvRefIdeal)
    ∧ quiescent_DyIn (hDyIn := hDyIn)
    ∧ quiescent_DyInIdeal (hDyInIdeal := hDyInIdeal)
    ∧ quiescent_DyInRefIdeal (hDyInRefIdeal := hDyInRefIdeal)
    ∧ quiescent_Loss (hLoss := hLoss)
    ∧ quiescent_LossIdeal (hLossIdeal := hLossIdeal)
    ∧ quiescent_LossRefIdeal (hLossRefIdeal := hLossRefIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_MlpDwdown (hMlpDwdown := hMlpDwdown)
    ∧ quiescent_MlpDwdownIdeal (hMlpDwdownIdeal := hMlpDwdownIdeal)
    ∧ quiescent_MlpDwdownRefIdeal (hMlpDwdownRefIdeal := hMlpDwdownRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_QkvProj (hQkvProj := hQkvProj)
    ∧ quiescent_QkvProjIdeal (hQkvProjIdeal := hQkvProjIdeal)
    ∧ quiescent_QkvProjRefIdeal (hQkvProjRefIdeal := hQkvProjRefIdeal)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ preserves_MlpDa_MlpDaIdeal
    ∧ algebraic_MlpDaIdeal_MlpDaRefIdeal (hMlpDaIdeal := hMlpDaIdeal) (hMlpDaRefIdeal := hMlpDaRefIdeal)
    ∧ preserves_MlpDy_MlpDyIdeal
    ∧ algebraic_MlpDyIdeal_MlpDyRefIdeal (hMlpDyIdeal := hMlpDyIdeal) (hMlpDyRefIdeal := hMlpDyRefIdeal)
    ∧ preserves_DyQkv_DyQkvIdeal
    ∧ algebraic_DyQkvIdeal_DyQkvRefIdeal (hDyQkvIdeal := hDyQkvIdeal) (hDyQkvRefIdeal := hDyQkvRefIdeal)
    ∧ preserves_DyIn_DyInIdeal
    ∧ algebraic_DyInIdeal_DyInRefIdeal (hDyInIdeal := hDyInIdeal) (hDyInRefIdeal := hDyInRefIdeal)
    ∧ preserves_Loss_LossIdeal
    ∧ algebraic_LossIdeal_LossRefIdeal (hLossIdeal := hLossIdeal) (hLossRefIdeal := hLossRefIdeal)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_MlpDwdown_MlpDwdownIdeal
    ∧ algebraic_MlpDwdownIdeal_MlpDwdownRefIdeal (hMlpDwdownIdeal := hMlpDwdownIdeal) (hMlpDwdownRefIdeal := hMlpDwdownRefIdeal)
    ∧ preserves_MixNorm_MixNormIdeal
    ∧ algebraic_MixNormIdeal_MixNormRefIdeal (hMixNormIdeal := hMixNormIdeal) (hMixNormRefIdeal := hMixNormRefIdeal)
    ∧ preserves_OutProj_OutProjIdeal
    ∧ algebraic_OutProjIdeal_OutProjRefIdeal (hOutProjIdeal := hOutProjIdeal) (hOutProjRefIdeal := hOutProjRefIdeal)
    ∧ preserves_MlpDown_MlpDownIdeal
    ∧ algebraic_MlpDownIdeal_MlpDownRefIdeal (hMlpDownIdeal := hMlpDownIdeal) (hMlpDownRefIdeal := hMlpDownRefIdeal)
    ∧ preserves_OProj_OProjIdeal
    ∧ algebraic_OProjIdeal_OProjRefIdeal (hOProjIdeal := hOProjIdeal) (hOProjRefIdeal := hOProjRefIdeal)
    ∧ preserves_QkvProj_QkvProjIdeal
    ∧ algebraic_QkvProjIdeal_QkvProjRefIdeal (hQkvProjIdeal := hQkvProjIdeal) (hQkvProjRefIdeal := hQkvProjRefIdeal)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
-- ==== Pre_finite_attn.lean ====
abbrev S4096x1280 : Shape := ⟨2, ![4096, 1280]⟩
abbrev S1x16 : Shape := ⟨2, ![1, 16]⟩
abbrev S4096x1024 : Shape := ⟨2, ![4096, 1024]⟩
abbrev S_ : Shape := ⟨0, ![]⟩

class Facts : Prop where
  bcast_S_S4096x1280 : S_.BroadcastsInDim S4096x1280 (![] : Fin 0 → Fin S4096x1280.rank)
  bcast_S_S1x16 : S_.BroadcastsInDim S1x16 (![] : Fin 0 → Fin S1x16.rank)
  bcast_S_S4096x1024 : S_.BroadcastsInDim S4096x1024 (![] : Fin 0 → Fin S4096x1024.rank)

variable [Facts]

def fn {F : FTy → Type} [FloatOps F] (main_arg0 : FVec F S4096x1280 .f32) (main_arg1 : FVec F S1x16 .f32) (main_arg2 : FVec F S4096x1024 .f32) : IVec S4096x1280 1 × IVec S1x16 1 × IVec S4096x1024 1 :=
  let main_v0 : FVec F S4096x1280 .f32 := Host.absf main_arg0
  let main_cst : FVec F S_ .f32 := constant S_ .f32 0x7F800000#32
  let main_v1 : FVec F S4096x1280 .f32 := broadcastInDim S4096x1280 ![] bcast_S_S4096x1280 main_cst
  let main_v2 : IVec S4096x1280 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_qk.lean ====
abbrev S4096x1280 : Shape := ⟨2, ![4096, 1280]⟩
abbrev S1x16 : Shape := ⟨2, ![1, 16]⟩
abbrev S4096x1152 : Shape := ⟨2, ![4096, 1152]⟩
abbrev S_ : Shape := ⟨0, ![]⟩

class Facts : Prop where
  slices_S4096x1280_S4096x1152_0_0 : S4096x1280.Slices ![0, 0] S4096x1152
  bcast_S_S4096x1152 : S_.BroadcastsInDim S4096x1152 (![] : Fin 0 → Fin S4096x1152.rank)
  bcast_S_S1x16 : S_.BroadcastsInDim S1x16 (![] : Fin 0 → Fin S1x16.rank)

variable [Facts]

def fn {F : FTy → Type} [FloatOps F] (main_arg0 : FVec F S4096x1280 .f32) (main_arg1 : FVec F S1x16 .f32) : IVec S4096x1152 1 × IVec S1x16 1 :=
  let main_v0 : FVec F S4096x1152 .f32 := (extractStridedSlice S4096x1152 ![0, 0] · slices_S4096x1280_S4096x1152_0_0) main_arg0
  let main_v1 : FVec F S4096x1152 .f32 := Host.absf main_v0
  let main_cst : FVec F S_ .f32 := constant S_ .f32 0x7F800000#32
  let main_v2 : FVec F S4096x1152 .f32 := broadcastInDim S4096x1152 ![] bcast_S_S4096x1152 main_cst
  let main_v3 : IVec S4096x1152 1 := cmpf .olt main_v1 main_v2
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  (main_v3, main_v6)
-- ==== MlpDa.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDaRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== MlpDy.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1024x4x1024, .f32⟩
  | .hbm, ⟨10, _⟩ => ⟨S4x1024x1024, .f32⟩
  | .hbm, ⟨11, _⟩ => ⟨S4096x4096, .bf16⟩
  | .hbm, ⟨12, _⟩ => ⟨S4x1024x1024, .bf16⟩
  | .hbm, ⟨13, _⟩ => ⟨S1x1024, .f32⟩
  | .hbm, ⟨14, _⟩ => ⟨S4096x1024, .f32⟩
  | .hbm, ⟨15, _⟩ => ⟨S1x1024, .f32⟩
  | .hbm, ⟨16, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpDyRefIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== DyQkv.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S4096x1280, .bf16⟩
  | .hbm, ⟨6, _⟩ => ⟨S1024x1280, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1024x1280, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DyQkvRefIdeal.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1280, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== DyIn.lean ====
abbrev S4096x1024 : Shape := ⟨2, ![4096, 1024]⟩
abbrev S1024 : Shape := ⟨1, ![1024]⟩
abbrev S1024x5136 : Shape := ⟨2, ![1024, 5136]⟩
abbrev S4096x5136 : Shape := ⟨2, ![4096, 5136]⟩
abbrev S_ : Shape := ⟨0, ![]⟩
abbrev S1024x240 : Shape := ⟨2, ![1024, 240]⟩
abbrev S1024x5376 : Shape := ⟨2, ![1024, 5376]⟩
abbrev S4096x240 : Shape := ⟨2, ![4096, 240]⟩
abbrev S4096x5376 : Shape := ⟨2, ![4096, 5376]⟩
abbrev S1x1024 : Shape := ⟨2, ![1, 1024]⟩
abbrev S256x5376 : Shape := ⟨2, ![256, 5376]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5136, .f32⟩
  | .hbm, ⟨3, _⟩ => ⟨S4096x5136, .f32⟩
  | .hbm, ⟨4, _⟩ => ⟨S4096x1024, .f32⟩
  | .hbm, ⟨5, _⟩ => ⟨S1024x5136, .bf16⟩
  | .hbm, ⟨6, _⟩ => ⟨S_, .bf16⟩
  | .hbm, ⟨7, _⟩ => ⟨S1024x240, .bf16⟩
  | .hbm, ⟨8, _⟩ => ⟨S1024x5376, .bf16⟩
  | .hbm, ⟨9, _⟩ => ⟨S4096x5136, .bf16⟩
  | .hbm, ⟨10, _⟩ => ⟨S_, .bf16⟩
  | .hbm, ⟨11, _⟩ => ⟨S4096x240, .bf16⟩
  | .hbm, ⟨12, _⟩ => ⟨S4096x5376, .bf16⟩
  | .hbm, ⟨13, _⟩ => ⟨S1x1024, .f32⟩
  | .hbm, ⟨14, _⟩ => ⟨S4096x1024, .f32⟩
  | .hbm, ⟨15, _⟩ => ⟨S1x1024, .f32⟩
  | .local _ .vmem, ⟨0, _⟩ => ⟨S256x5376, .bf16⟩
  | .local _ .vmem, ⟨1, _⟩ => ⟨S256x5376, .bf16⟩
  | .local _ .vmem, ⟨2, _⟩ => ⟨S1024x5376, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DyInRefIdeal.lean ====
abbrev S4096x1024 : Shape := ⟨2, ![4096, 1024]⟩
abbrev S1024 : Shape := ⟨1, ![1024]⟩
abbrev S1024x5136 : Shape := ⟨2, ![1024, 5136]⟩
abbrev S4096x5136 : Shape := ⟨2, ![4096, 5136]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5136, .f32⟩
  | .hbm, ⟨3, _⟩ => ⟨S4096x5136, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5136, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Loss.lean ====
abbrev S4096x1024 : Shape := ⟨2, ![4096, 1024]⟩
abbrev S4096x4096 : Shape := ⟨2, ![4096, 4096]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .bf16⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== AttnBwd.lean ====
abbrev S4096x1280 : Shape := ⟨2, ![4096, 1280]⟩
abbrev S1x16 : Shape := ⟨2, ![1, 16]⟩
abbrev S4096x1024 : Shape := ⟨2, ![4096, 1024]⟩
abbrev S_ : Shape := ⟨0, ![]⟩
abbrev S1x128 : Shape := ⟨2, ![1, 128]⟩
abbrev S1x1280 : Shape := ⟨2, ![1, 1280]⟩
abbrev S128x1024 : Shape := ⟨2, ![128, 1024]⟩
abbrev S128x128 : Shape := ⟨2, ![128, 128]⟩
abbrev S128x1280 : Shape := ⟨2, ![128, 1280]⟩
abbrev S2x128x128 : Shape := ⟨3, ![2, 128, 128]⟩
abbrev S1024x128 : Shape := ⟨2, ![1024, 128]⟩
abbrev S1 : Shape := ⟨1, ![1]⟩
abbrev S1x1 : Shape := ⟨2, ![1, 1]⟩
abbrev S128 : Shape := ⟨1, ![128]⟩
abbrev S128x1 : Shape := ⟨2, ![128, 1]⟩
abbrev S1x128x1 : Shape := ⟨3, ![1, 128, 1]⟩
abbrev S1x1x1 : Shape := ⟨3, ![1, 1, 1]⟩
abbrev S1x128x128 : Shape := ⟨3, ![1, 128, 128]⟩

abbrev nBuf : Space → Nat
  | .hbm => 10
  | .vmem => 18
  | .smem => 0
  | _ => 0

abbrev bufTy : (tb : Table) → Fin (tcTables nBuf tb) → BufTy
  | .hbm, ⟨0, _⟩ => ⟨S4096x1280, .f32⟩
  | .hbm, ⟨1, _⟩ => ⟨S1x16, .f32⟩
  | .hbm, ⟨2, _⟩ => ⟨S4096x1024, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S4096x1024, .bf16⟩
  | .hbm, ⟨7, _⟩ => ⟨S4096x1280, .bf16⟩
  | .hbm, ⟨8, _⟩ => ⟨S1x128, .f32⟩
  | .hbm, ⟨9, _⟩ => ⟨S1x1280, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x1024, .bf16⟩
  | .local _ .vmem, ⟨12, _⟩ => ⟨S128x1024, .bf16⟩
  | .local _ .vmem, ⟨13, _⟩ => ⟨S128x1280, .bf16⟩
  | .local _ .vmem, ⟨14, _⟩ => ⟨S128x1280, .bf16⟩
  | .local _ .vmem, ⟨15, _⟩ => ⟨S1x128, .f32⟩
  | .local _ .vmem, ⟨16, _⟩ => ⟨S1x1280, .f32⟩
  | .local _ .vmem, ⟨17, _⟩ => ⟨S2x128x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c9_i32 : BitVec 32 := 9#32
  let c0_i32 : BitVec 32 := 0#32
  ![v0.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnBwdRefIdeal.lean ====
abbrev S4096x1280 : Shape := ⟨2, ![4096, 1280]⟩
abbrev S1x16 : Shape := ⟨2, ![1, 16]⟩
abbrev S4096x1024 : Shape := ⟨2, ![4096, 1024]⟩
abbrev S4096x128 : Shape := ⟨2, ![4096, 128]⟩
abbrev S4096x2x8x64 : Shape := ⟨4, ![4096, 2, 8, 64]⟩
abbrev S4096x2x64 : Shape := ⟨3, ![4096, 2, 64]⟩
abbrev S2x4096x4096x8 : Shape := ⟨4, ![2, 4096, 4096, 8]⟩
abbrev S2x8x4096x4096 : Shape := ⟨4, ![2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8 : Shape := ⟨2, ![2, 8]⟩
abbrev S2x8x1x1 : Shape := ⟨4, ![2, 8, 1, 1]⟩
abbrev S2x8x4096 : Shape := ⟨3, ![2, 8, 4096]⟩
abbrev S2x8x4096x1 : Shape := ⟨4, ![2, 8, 4096, 1]⟩
abbrev S2x64x8x4096 : Shape := ⟨4, ![2, 64, 8, 4096]⟩
abbrev S2x64x4096 : Shape := ⟨3, ![2, 64, 4096]⟩
abbrev S2x4096x8x64 : Shape := ⟨4, ![2, 4096, 8, 64]⟩
abbrev S2x4096x64 : Shape := ⟨3, ![2, 4096, 64]⟩

abbrev nBuf : Space → Nat
  | .hbm => 128
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1x16, .f32⟩
  | .hbm, ⟨2, _⟩ => ⟨S4096x1024, .f32⟩
  | .hbm, ⟨3, _⟩ => ⟨S4096x1024, .f32⟩
  | .hbm, ⟨4, _⟩ => ⟨S4096x128, .f32⟩
  | .hbm, ⟨5, _⟩ => ⟨S4096x128, .f32⟩
  | .hbm, ⟨6, _⟩ => ⟨S4096x2x8x64, .f32⟩
  | .hbm, ⟨7, _⟩ => ⟨S4096x2x64, .f32⟩
  | .hbm, ⟨8, _⟩ => ⟨S4096x2x64, .f32⟩
  | .hbm, ⟨9, _⟩ => ⟨S2x4096x4096x8, .f32⟩
  | .hbm, ⟨10, _⟩ => ⟨S2x8x4096x4096, .f32⟩
  | .hbm, ⟨11, _⟩ => ⟨S_, .f32⟩
  | .hbm, ⟨12, _⟩ => ⟨S2x8x4096x4096, .f32⟩
  | .hbm, ⟨13, _⟩ => ⟨S2x8x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S1x4096, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S2x8x4096x4096, .i1⟩
  | .hbm, ⟨31, _⟩ => ⟨S2x8x4096x4096, .f32⟩
  | .hbm, ⟨32, _⟩ => ⟨S2x8x4096x4096, .f32⟩
  | .hbm, ⟨33, _⟩ => ⟨S_, .f32⟩
  | .hbm, ⟨34, _⟩ => ⟨S2x8x4096x4096, .f32⟩
  | .hbm, ⟨35, _⟩ => ⟨S2x8, .f32⟩
  | .hbm, ⟨36, _⟩ => ⟨S2x8x1x1, .f32⟩
  | .hbm, ⟨37, _⟩ => ⟨S_, .f32⟩
  | .hbm, ⟨38, _⟩ => ⟨S2x8x4096, .f32⟩
  | .hbm, ⟨39, _⟩ => ⟨S2x8x4096x1, .f32⟩
  | .hbm, ⟨40, _⟩ => ⟨S2x8x4096x4096, .f32⟩
  | .hbm, ⟨41, _⟩ => ⟨S2x8x4096x4096, .i1⟩
  | .hbm, ⟨42, _⟩ => ⟨S2x8x4096x4096, .f32⟩
  | .hbm, ⟨43, _⟩ => ⟨S_, .f32⟩
  | .hbm, ⟨44, _⟩ => ⟨S2x8x4096, .f32⟩
  | .hbm, ⟨45, _⟩ => ⟨S2x8x4096x1, .f32⟩
  | .hbm, ⟨46, _⟩ => ⟨S2x8x4096x1, .f32⟩
  | .hbm, ⟨47, _⟩ => ⟨S2x8x4096x1, .f32⟩
  | .hbm, ⟨48, _⟩ => ⟨S2x8x4096x1, .f32⟩
  | .hbm, ⟨49, _⟩ => ⟨S2x8x4096x1, .i1⟩
  | .hbm, ⟨50, _⟩ => ⟨S2x8x4096x1, .f32⟩
  | .hbm, ⟨51, _⟩ => ⟨S2x8x4096x1, .i1⟩
  | .hbm, ⟨52, _⟩ => ⟨S_, .f32⟩
  | .hbm, ⟨53, _⟩ => ⟨S2x8x4096x1, .f32⟩
  | .hbm, ⟨54, _⟩ => ⟨S_, .f32⟩
  | .hbm, ⟨55, _⟩ => ⟨S2x8x4096x1, .f32⟩
  | .hbm, ⟨56, _⟩ => ⟨S_, .f32⟩
  | .hbm, ⟨57, _⟩ => ⟨S2x8x4096x1, .f32⟩
  | .hbm, ⟨58, _⟩ => ⟨S2x8x4096x1, .f32⟩
  | .hbm, ⟨59, _⟩ => ⟨S2x8x4096x1, .f32⟩
  | .hbm, ⟨60, _⟩ => ⟨S2x8x4096x4096, .f32⟩
  | .hbm, ⟨61, _⟩ => ⟨S2x8x4096x4096, .f32⟩
  | .hbm, ⟨62, _⟩ => ⟨S2x8x4096x4096, .f32⟩
  | .hbm, ⟨63, _⟩ => ⟨S_, .f32⟩
  | .hbm, ⟨64, _⟩ => ⟨S2x8x4096, .f32⟩
  | .hbm, ⟨65, _⟩ => ⟨S2x8x4096x1, .f32⟩
  | .hbm, ⟨66, _⟩ => ⟨S2x8x4096x1, .f32⟩
  | .hbm, ⟨67, _⟩ => ⟨S2x8x4096x1, .f32⟩
  | .hbm, ⟨68, _⟩ => ⟨S2x8x4096x1, .f32⟩
  | .hbm, ⟨69, _⟩ => ⟨S2x8x4096x1, .f32⟩
  | .hbm, ⟨70, _⟩ => ⟨S2x8x4096x4096, .f32⟩
  | .hbm, ⟨71, _⟩ => ⟨S2x8x4096x4096, .f32⟩
  | .hbm, ⟨72, _⟩ => ⟨S2x8x4096x1, .f32⟩
  | .hbm, ⟨73, _⟩ => ⟨S_, .f32⟩
  | .hbm, ⟨74, _⟩ => ⟨S2x8x4096x1, .f32⟩
  | .hbm, ⟨75, _⟩ => ⟨S2x8x4096x1, .f32⟩
  | .hbm, ⟨76, _⟩ => ⟨S2x64x8x4096, .f32⟩
  | .hbm, ⟨77, _⟩ => ⟨S4096x2x8x64, .f32⟩
  | .hbm, ⟨78, _⟩ => ⟨S4096x1024, .f32⟩
  | .hbm, ⟨79, _⟩ => ⟨S4096x2x8x64, .f32⟩
  | .hbm, ⟨80, _⟩ => ⟨S2x64x8x4096, .f32⟩
  | .hbm, ⟨81, _⟩ => ⟨S2x8x4096x4096, .f32⟩
  | .hbm, ⟨82, _⟩ => ⟨S2x64x4096, .f32⟩
  | .hbm, ⟨83, _⟩ => ⟨S4096x2x64, .f32⟩
  | .hbm, ⟨84, _⟩ => ⟨S2x8x4096x4096, .f32⟩
  | .hbm, ⟨85, _⟩ => ⟨S2x8x4096x4096, .f32⟩
  | .hbm, ⟨86, _⟩ => ⟨S2x8x4096x4096, .f32⟩
  | .hbm, ⟨87, _⟩ => ⟨S_, .f32⟩
  | .hbm, ⟨88, _⟩ => ⟨S2x8x4096, .f32⟩
  | .hbm, ⟨89, _⟩ => ⟨S2x8x4096x1, .f32⟩
  | .hbm, ⟨90, _⟩ => ⟨S2x8x4096x1, .f32⟩
  | .hbm, ⟨91, _⟩ => ⟨S2x8x4096x4096, .f32⟩
  | .hbm, ⟨92, _⟩ => ⟨S2x8x4096x4096, .f32⟩
  | .hbm, ⟨93, _⟩ => ⟨S2x8x4096x1, .f32⟩
  | .hbm, ⟨94, _⟩ => ⟨S2x8x4096x1, .f32⟩
  | .hbm, ⟨95, _⟩ => ⟨S_, .f32⟩
  | .hbm, ⟨96, _⟩ => ⟨S2x8x4096, .f32⟩
  | .hbm, ⟨97, _⟩ => ⟨S2x8x4096x4096, .f32⟩
  | .hbm, ⟨98, _⟩ => ⟨S2x8x4096x4096, .f32⟩
  | .hbm, ⟨99, _⟩ => ⟨S2x8x4096x4096, .f32⟩
  | .hbm, ⟨100, _⟩ => ⟨S2x8x4096x4096, .f32⟩
  | .hbm, ⟨101, _⟩ => ⟨S_, .f32⟩
  | .hbm, ⟨102, _⟩ => ⟨S2x8x4096, .f32⟩
  | .hbm, ⟨103, _⟩ => ⟨S2x8x4096x1, .f32⟩
  | .hbm, ⟨104, _⟩ => ⟨S2x8x4096x1, .f32⟩
  | .hbm, ⟨105, _⟩ => ⟨S2x8x4096x1, .f32⟩
  | .hbm, ⟨106, _⟩ => ⟨S_, .f32⟩
  | .hbm, ⟨107, _⟩ => ⟨S2x8x4096, .f32⟩
  | .hbm, ⟨108, _⟩ => ⟨S2x8x4096, .f32⟩
  | .hbm, ⟨109, _⟩ => ⟨S2x8x4096x4096, .f32⟩
  | .hbm, ⟨110, _⟩ => ⟨S2x8x4096x4096, .f32⟩
  | .hbm, ⟨111, _⟩ => ⟨S2x8x4096x4096, .f32⟩
  | .hbm, ⟨112, _⟩ => ⟨S_, .f32⟩
  | .hbm, ⟨113, _⟩ => ⟨S2x8x4096x4096, .f32⟩
  | .hbm, ⟨114, _⟩ => ⟨S2x8x4096x4096, .f32⟩
  | .hbm, ⟨115, _⟩ => ⟨S_, .f32⟩
  | .hbm, ⟨116, _⟩ => ⟨S2x8x4096x4096, .f32⟩
  | .hbm, ⟨117, _⟩ => ⟨S2x8x4096x4096, .f32⟩
  | .hbm, ⟨118, _⟩ => ⟨S2x4096x4096x8, .f32⟩
  | .hbm, ⟨119, _⟩ => ⟨S2x4096x8x64, .f32⟩
  | .hbm, ⟨120, _⟩ => ⟨S4096x2x8x64, .f32⟩
  | .hbm, ⟨121, _⟩ => ⟨S2x4096x64, .f32⟩
  | .hbm, ⟨122, _⟩ => ⟨S4096x2x64, .f32⟩
  | .hbm, ⟨123, _⟩ => ⟨S4096x128, .f32⟩
  | .hbm, ⟨124, _⟩ => ⟨S4096x128, .f32⟩
  | .hbm, ⟨125, _⟩ => ⟨S4096x1024, .f32⟩
  | .hbm, ⟨126, _⟩ => ⟨S4096x1280, .f32⟩
  | .hbm, ⟨127, _⟩ => ⟨S4096x1280, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_v23_1 : Ref sig .tc := ⟨.hbm, 30, rfl⟩
abbrev main_call0_v2 : Ref sig .tc := ⟨.hbm, 31, rfl⟩
abbrev main_v23_0 : Ref sig .tc := ⟨.hbm, 32, rfl⟩
abbrev main_call0_cst : Ref sig .tc := ⟨.hbm, 33, rfl⟩
abbrev main_v23_2 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_11 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_call1_cst : Ref sig .tc := ⟨.hbm, 112, rfl⟩
abbrev main_call1_v0 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]
-- ==== MlpDwdown.lean ====
abbrev S4096x1024 : Shape := ⟨2, ![4096, 1024]⟩
abbrev S1024x4096 : Shape := ⟨2, ![1024, 4096]⟩
abbrev S4096x4096 : Shape := ⟨2, ![4096, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwdownRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== MixNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixNormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutProj.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S4096x2048, .bf16⟩
  | .hbm, ⟨5, _⟩ => ⟨S2048x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MlpDown.lean ====
abbrev S4096x1024 : Shape := ⟨2, ![4096, 1024]⟩
abbrev S4096x4096 : Shape := ⟨2, ![4096, 4096]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S4096x4096, .bf16⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpDownRefIdeal.lean ====
abbrev S4096x1024 : Shape := ⟨2, ![4096, 1024]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== OProj.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OProjRefIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== QkvProj.lean ====
abbrev S4096x1024 : Shape := ⟨2, ![4096, 1024]⟩
abbrev S1024x1280 : Shape := ⟨2, ![1024, 1280]⟩
abbrev S1280 : Shape := ⟨1, ![1280]⟩
abbrev S1x1280 : Shape := ⟨2, ![1, 1280]⟩
abbrev S4096x1280 : Shape := ⟨2, ![4096, 1280]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S1280, .f32⟩
  | .hbm, ⟨3, _⟩ => ⟨S4096x1024, .bf16⟩
  | .hbm, ⟨4, _⟩ => ⟨S1024x1280, .bf16⟩
  | .hbm, ⟨5, _⟩ => ⟨S1x1280, .f32⟩
  | .hbm, ⟨6, _⟩ => ⟨S4096x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1x1280, .f32⟩
  | .local _ .vmem, ⟨4, _⟩ => ⟨S1024x1280, .f32⟩
  | .local _ .vmem, ⟨5, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvProjRefIdeal.lean ====
abbrev S4096x1024 : Shape := ⟨2, ![4096, 1024]⟩
abbrev S1024x1280 : Shape := ⟨2, ![1024, 1280]⟩
abbrev S1280 : Shape := ⟨1, ![1280]⟩
abbrev S4096x1280 : Shape := ⟨2, ![4096, 1280]⟩
abbrev S1x1280 : Shape := ⟨2, ![1, 1280]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S1280, .f32⟩
  | .hbm, ⟨3, _⟩ => ⟨S4096x1280, .f32⟩
  | .hbm, ⟨4, _⟩ => ⟨S1x1280, .f32⟩
  | .hbm, ⟨5, _⟩ => ⟨S4096x1280, .f32⟩
  | .hbm, ⟨6, _⟩ => ⟨S4096x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnFwd.lean ====
abbrev S4096x1280 : Shape := ⟨2, ![4096, 1280]⟩
abbrev S1x16 : Shape := ⟨2, ![1, 16]⟩
abbrev S_ : Shape := ⟨0, ![]⟩
abbrev S1x128 : Shape := ⟨2, ![1, 128]⟩
abbrev S4096x1024 : Shape := ⟨2, ![4096, 1024]⟩
abbrev S128x1024 : Shape := ⟨2, ![128, 1024]⟩
abbrev S128x128 : Shape := ⟨2, ![128, 128]⟩
abbrev S1024x128 : Shape := ⟨2, ![1024, 128]⟩
abbrev S1 : Shape := ⟨1, ![1]⟩
abbrev S1x1 : Shape := ⟨2, ![1, 1]⟩
abbrev S128 : Shape := ⟨1, ![128]⟩
abbrev S128x1 : Shape := ⟨2, ![128, 1]⟩

abbrev nBuf : Space → Nat
  | .hbm => 6
  | .vmem => 13
  | .smem => 0
  | _ => 0

abbrev bufTy : (tb : Table) → Fin (tcTables nBuf tb) → BufTy
  | .hbm, ⟨0, _⟩ => ⟨S4096x1280, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S1x128, .f32⟩
  | .hbm, ⟨5, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x1024, .bf16⟩
  | .local _ .vmem, ⟨12, _⟩ => ⟨S128x1024, .bf16⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdRefIdeal.lean ====
abbrev S4096x1280 : Shape := ⟨2, ![4096, 1280]⟩
abbrev S1x16 : Shape := ⟨2, ![1, 16]⟩
abbrev S4096x1024 : Shape := ⟨2, ![4096, 1024]⟩
abbrev S4096x128 : Shape := ⟨2, ![4096, 128]⟩
abbrev S4096x2x8x64 : Shape := ⟨4, ![4096, 2, 8, 64]⟩
abbrev S4096x2x64 : Shape := ⟨3, ![4096, 2, 64]⟩
abbrev S2x4096x4096x8 : Shape := ⟨4, ![2, 4096, 4096, 8]⟩
abbrev S2x8x4096x4096 : Shape := ⟨4, ![2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8 : Shape := ⟨2, ![2, 8]⟩
abbrev S2x8x1x1 : Shape := ⟨4, ![2, 8, 1, 1]⟩
abbrev S2x8x4096 : Shape := ⟨3, ![2, 8, 4096]⟩
abbrev S2x8x4096x1 : Shape := ⟨4, ![2, 8, 4096, 1]⟩
abbrev S2x64x8x4096 : Shape := ⟨4, ![2, 64, 8, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1x16, .f32⟩
  | .hbm, ⟨2, _⟩ => ⟨S4096x1024, .f32⟩
  | .hbm, ⟨3, _⟩ => ⟨S4096x128, .f32⟩
  | .hbm, ⟨4, _⟩ => ⟨S4096x128, .f32⟩
  | .hbm, ⟨5, _⟩ => ⟨S4096x2x8x64, .f32⟩
  | .hbm, ⟨6, _⟩ => ⟨S4096x2x64, .f32⟩
  | .hbm, ⟨7, _⟩ => ⟨S4096x2x64, .f32⟩
  | .hbm, ⟨8, _⟩ => ⟨S2x4096x4096x8, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S1x4096, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S2x8x4096x4096, .i1⟩
  | .hbm, ⟨30, _⟩ => ⟨S2x8x4096x4096, .f32⟩
  | .hbm, ⟨31, _⟩ => ⟨S2x8x4096x4096, .f32⟩
  | .hbm, ⟨32, _⟩ => ⟨S2x8, .f32⟩
  | .hbm, ⟨33, _⟩ => ⟨S2x8x1x1, .f32⟩
  | .hbm, ⟨34, _⟩ => ⟨S_, .f32⟩
  | .hbm, ⟨35, _⟩ => ⟨S2x8x4096, .f32⟩
  | .hbm, ⟨36, _⟩ => ⟨S2x8x4096x1, .f32⟩
  | .hbm, ⟨37, _⟩ => ⟨S2x8x4096x1, .f32⟩
  | .hbm, ⟨38, _⟩ => ⟨S2x8x4096x1, .f32⟩
  | .hbm, ⟨39, _⟩ => ⟨S2x8x4096x4096, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S2x8x4096, .f32⟩
  | .hbm, ⟨44, _⟩ => ⟨S2x8x4096x1, .f32⟩
  | .hbm, ⟨45, _⟩ => ⟨S2x8x4096x1, .f32⟩
  | .hbm, ⟨46, _⟩ => ⟨S2x8x4096x1, .f32⟩
  | .hbm, ⟨47, _⟩ => ⟨S2x8x4096x1, .f32⟩
  | .hbm, ⟨48, _⟩ => ⟨S2x8x4096x1, .f32⟩
  | .hbm, ⟨49, _⟩ => ⟨S2x8x4096x4096, .f32⟩
  | .hbm, ⟨50, _⟩ => ⟨S2x8x4096x4096, .f32⟩
  | .hbm, ⟨51, _⟩ => ⟨S2x64x8x4096, .f32⟩
  | .hbm, ⟨52, _⟩ => ⟨S4096x2x8x64, .f32⟩
  | .hbm, ⟨53, _⟩ => ⟨S4096x1024, .f32⟩
  | .hbm, ⟨54, _⟩ => ⟨S4096x1024, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.MlpDa.lean ====
/- The gradient of the square of the rectified hidden units, through the down projection: the kernel's result array, read
   at an index, is the reference's term there. The kernel multiplies the product by twice the rectified pre-activation;
   the reference selects that product where the pre-activation is positive and zero elsewhere, where the rectified
   pre-activation is zero. -/
module

public import proofs.«01_k».proof.Defs
public import proofs.«01_k».proof.Proof.Gen.MlpDaIdeal.Value
public import proofs.«01_k».proof.Proof.Gen.MlpDaRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MlpDaIdeal.Hand

open Cert.MlpDaIdeal Cert.MlpDaIdeal.Gen

/-- Every window's block index at every grid point. -/
theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The product's gradient, selected where the sum `a` is positive, is the product with twice the rectified sum. -/
theorem select_eq (a d w : EReal) [Decidable (0 < a)] : (if 0 < a then d * (w * max a 0) else 0) = d * (w * max a 0) := by
  split
  · rfl
  · rename_i h
    rw [max_eq_right (not_lt.mp h), mul_zero, mul_zero]

/-- The two programs' results are equal, from memories that agree on the arguments. -/
theorem algebraic : Cert.algebraic_MlpDaIdeal_MlpDaRefIdeal := by
  intro m g m' g' _ hagree
  refine ⟨fun c => (dats m 0 c).arrAt 3 cfg0.N, Value.run_blocks m g,
    (θ_run _ _ _).mono (fun r h c => ⟨(h c).1.trans ?_, (h c).2⟩) (Cert.MlpDaRefIdeal.Value.run m' g')⟩
  clear h
  obtain ⟨h0, h1, h2, h3⟩ := hagree c
  rw [h0, h1, h2, h3]
  symm
  refine (dats m 0 c).arrAt_eq_of_covers 3 _ (by decide +kernel) fun t hf y => ?_
  blk_simp; rw [after0_3]; frame_out
  pointwise [k0_pay1]
  refine Eq.trans ?_ (select_eq _ _ _).symm
  blk_point [iblk, V, idx t]
  refine congrArg (max · 0) ?_
  entry_read
  pointwise
  blk_point [idx t]

end Cert.MlpDaIdeal.Hand

end
-- ==== Proof.Common.lean ====
/- Sums of extended reals, as the programs' terms spell them. -/
module

public import Idealize.ShloMosaic.Lib.Pipeline.ValueKit

@[expose] public section

open scoped BigOperators

namespace Cert.Common

/-- A sum of four, taken from the left, is the first and the sum of the others. -/
theorem sum_assoc (a b d e : EReal) : a + b + d + e = a + (b + d + e) := by
  rw [add_assoc, add_assoc, add_assoc]

/-- A sum over one place is the term there. -/
theorem sum_one (f : Fin 1 → EReal) : ∑ x, f x = f 0 := Fin.sum_univ_one f

/-- A sum whose terms from `a` on are zero is the sum of the first `a`. -/
theorem sum_padded {a b n : ℕ} (hn : n = a + b) (f : Fin n → EReal) (g : Fin a → EReal)
    (hf : ∀ k : Fin a, f ⟨k, by omega⟩ = g k) (h0 : ∀ k : Fin n, a ≤ k.val → f k = 0) : ∑ k, f k = ∑ k, g k := by
  subst hn
  rw [Fin.sum_univ_add, Finset.sum_eq_zero (s := Finset.univ) (f := fun i : Fin b => f (Fin.natAdd a i))
    (fun i _ => h0 _ (by simp)), add_zero]
  exact Finset.sum_congr rfl fun k _ => hf k

/-- A sum over four runs of `n` places is the four runs' sums, added from zero. -/
theorem sum_four {n N : ℕ} (hN : N = 4 * n) (f : Fin N → EReal) :
    ∑ k, f k = 0 + (∑ k : Fin n, f ⟨k, by omega⟩) + (∑ k : Fin n, f ⟨n + k, by omega⟩)
      + (∑ k : Fin n, f ⟨2 * n + k, by omega⟩) + ∑ k : Fin n, f ⟨3 * n + k, by omega⟩ := by
  have e : N = n + n + n + n := by omega
  subst e
  rw [zero_add, Fin.sum_univ_add, Fin.sum_univ_add, Fin.sum_univ_add]
  refine congrArg₂ _ (congrArg₂ _ (congrArg₂ _ ?_ ?_) ?_) ?_ <;>
    exact Finset.sum_congr rfl fun k _ => congrArg f (Fin.ext (by simp; try omega))

/-- The pattern of one half. -/
theorem half : Idealize.ShloMosaic.Ideal.ofBits Idealize.ShloMosaic.FTy.f32 0x3F000000#32 = ((1 / 2 : ℝ) : EReal) := by
  simp [Idealize.ShloMosaic.Ideal.ofBits, Idealize.ShloMosaic.Ideal.ieee, -EReal.coe_mul]
  norm_num

/-- One half goes into a sum of extended reals, whatever the terms are. -/
theorem half_sum {ι : Type*} (s : Finset ι) (f : ι → EReal) :
    Idealize.ShloMosaic.Ideal.ofBits Idealize.ShloMosaic.FTy.f32 0x3F000000#32 * ∑ k ∈ s, f k
      = ∑ k ∈ s, Idealize.ShloMosaic.Ideal.ofBits Idealize.ShloMosaic.FTy.f32 0x3F000000#32 * f k := by
  rw [half]
  classical
  induction s using Finset.induction_on with
  | empty => simp
  | insert a s ha ih =>
    rw [Finset.sum_insert ha, Finset.sum_insert ha,
      EReal.left_distrib_of_nonneg_of_ne_top (by exact_mod_cast (by norm_num : (0 : ℝ) ≤ 1 / 2)) (EReal.coe_ne_top _), ih]

end Cert.Common
-- ==== Proof.MlpDy.lean ====
/- The gradient of the gated unit's RMS normalisation, fused with the product of the hidden units' gradient with the
   transposed weights, whose columns are handed over in four slabs: each block of rows is the reference's rows, and the
   scale's gradient and the sum over the rows, added up block after block, are the reference's sums over all rows. -/
module

public import proofs.«01_k».proof.Defs
public import proofs.«01_k».proof.Proof.Gen.MlpDyIdeal.Value
public import proofs.«01_k».proof.Proof.Gen.MlpDyRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MlpDyIdeal.Hand

open Cert.Common Cert.MlpDyIdeal Cert.MlpDyIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![0, 0]
    ∧ win0_7.index t = ![0, 0] :=
  (by decide +kernel : ∀ t : Fin grid0.N, _)

/-- A point's product: its rows of the hidden units' gradient against the four slabs of the weights. -/
abbrev product (c : Dev nD) (t : Fin cfg0.N) : FVec Ideal S512x1024 .f32 :=
  k0_pay3 (iblk m c 0 t)
    (View.ld (iblk m c 1 t) (Rect.unit ![0, 0, 0] ![1, 1024, 1024] inb_S4x1024x1024_S1x1024x1024_0_0_0))
    (View.ld (iblk m c 1 t) (Rect.unit ![1, 0, 0] ![1, 1024, 1024] inb_S4x1024x1024_S1x1024x1024_1_0_0))
    (View.ld (iblk m c 1 t) (Rect.unit ![2, 0, 0] ![1, 1024, 1024] inb_S4x1024x1024_S1x1024x1024_2_0_0))
    (View.ld (iblk m c 1 t) (Rect.unit ![3, 0, 0] ![1, 1024, 1024] inb_S4x1024x1024_S1x1024x1024_3_0_0))

/-- What a point writes of the rows' gradient: the payloads of its blocks. -/
theorem rows (c : Dev nD) (t : Fin cfg0.N) :
    (outsAt0 m c t.val t.isLt).1 = k0_pay10 (product m c t) (k0_pay4 (iblk m c 2 t)) (k0_pay5 (iblk m c 3 t))
      (iblk m c 4 t) (k0_pay6 (iblk m c 2 t)) k0_pay7 := by
  by_cases h : t.val % 8 = 0
  · rw [outsAt0_A m c t h h]; frame_out; rfl
  · rw [outsAt0_B m c t h h]; frame_out; rfl

/-- The scale's gradient starts at zero. -/
theorem scale_zero (j : S1x1024.Idx) : k0_pay12 (F := Ideal) j = 0 := by pointwise [k0_pay12]

/-- The sum over the rows starts at zero. -/
theorem sum_zero (j : S1x1024.Idx) : k0_pay1 (F := Ideal) j = 0 := by pointwise [k0_pay1]

/-- A point adds its rows' part to what the scale's gradient held. -/
theorem scale_add (a b : FVec Ideal S512x1024 .f32) (d e : FVec Ideal S512x1 .f32) (w : FVec Ideal S1x1024 .f32)
    (j : S1x1024.Idx) :
    k0_pay13 a b d e w j = w j + ∑ k : Fin 512, b (ix2 k (j 1)) * k0_pay9 d e (ix2 k 0) * a (ix2 k (j 1)) := by
  pointwise [k0_pay13]

/-- A point adds its rows' sum to what the sum over the rows held. -/
theorem sum_add (v w : FVec Ideal S1x1024 .f32) (j : S1x1024.Idx) : k0_pay2 v w j = w j + v j := by
  pointwise [k0_pay2]

set_option maxHeartbeats 2000000 in
/-- The product over the slabs is the sum over all the hidden units. -/
theorem prod (c : Dev nD) (A : FVec Ideal S4096x4096 .f32) (B : FVec Ideal S1024x4096 .f32)
    (hA : m ((c : Thread nD τ).loc main_arg4) = A) (hB : m ((c : Thread nD τ).loc main_arg3) = B)
    (t : Fin cfg0.N) (y : S512x1024.Idx) (r : Fin 4096) (q : Fin 1024) (hr : r.val = t.val * 512 + y 0) (hq : q.val = y 1) :
    product m c t y = ∑ k : Fin 4096, A (ix2 r k) * B (ix2 q k) := by
  subst hA hB
  refine Eq.trans ?_ (sum_four (n := 1024) rfl _).symm
  pointwise [k0_pay3]
  refine congrArg₂ (· + ·) (congrArg₂ (· + ·) (congrArg₂ (· + ·) ?_ ?_) ?_) ?_ <;>
    refine Finset.sum_congr rfl fun k _ => congrArg₂ (· * ·) ?_ ?_
  all_goals
    blk_simp [iblk, idx t]
    entry_read
    pointwise
    blk_ext [idx t]

/-- A point's rows of the residual stream. -/
theorem resid (c : Dev nD) (A : FVec Ideal S4096x1024 .f32) (B : FVec Ideal S1024 .f32)
    (hA : m ((c : Thread nD τ).loc main_arg0) = A) (hB : m ((c : Thread nD τ).loc main_arg1) = B)
    (t : Fin cfg0.N) (y : S512x1024.Idx) (r : Fin 4096) (q : Fin 1024) (hr : r.val = t.val * 512 + y 0) (hq : q.val = y 1) :
    iblk m c 2 t y = A (ix2 r q) + B (ix1 q) := by
  subst hA hB
  blk_simp [iblk, idx t]
  entry_read
  pointwise
  refine congrArg₂ (· + ·) ?_ ?_
  · blk_ext [idx t]
  · blk_ext [idx t]

variable (m' : (ℓ : Loc Cert.MlpDyRefIdeal.nD Cert.MlpDyRefIdeal.τ Cert.MlpDyRefIdeal.sig) → Buf (Elt Ideal) ℓ) (c : Dev nD)
  (h0 : m' ((c : Thread nD τ).loc Cert.MlpDyRefIdeal.main_arg0) = m ((c : Thread nD τ).loc main_arg0))
  (h1 : m' ((c : Thread nD τ).loc Cert.MlpDyRefIdeal.main_arg1) = m ((c : Thread nD τ).loc main_arg1))
  (h2 : m' ((c : Thread nD τ).loc Cert.MlpDyRefIdeal.main_arg2) = m ((c : Thread nD τ).loc main_arg2))
  (h3 : m' ((c : Thread nD τ).loc Cert.MlpDyRefIdeal.main_arg3) = m ((c : Thread nD τ).loc main_arg3))
  (h4 : m' ((c : Thread nD τ).loc Cert.MlpDyRefIdeal.main_arg4) = m ((c : Thread nD τ).loc main_arg4))
  (h5 : m' ((c : Thread nD τ).loc Cert.MlpDyRefIdeal.main_arg5) = m ((c : Thread nD τ).loc main_arg5))
include h0 h1 h2 h3 h4 h5

/-- The rows' gradient at a point, read at an index, is the reference's. -/
theorem rows_at (t : Fin cfg0.N) (y : S512x1024.Idx) (r : Fin 4096) (q : Fin 1024) (hr : r.val = t.val * 512 + y 0)
    (hq : q.val = y 1) :
    k0_pay10 (product m c t) (k0_pay4 (iblk m c 2 t)) (k0_pay5 (iblk m c 3 t))
      (iblk m c 4 t) (k0_pay6 (iblk m c 2 t)) k0_pay7 y = Cert.MlpDyRefIdeal.Value.res_main_v41 (F := Ideal) m' c (ix2 r q) := by
  have hP := prod m c _ _ rfl rfl t
  have hR := resid m c _ _ rfl rfl t
  generalize product m c t = P at hP ⊢
  generalize iblk m c 2 t = R at hR ⊢
  pointwise [k0_pay10, k0_pay9, k0_pay8, k0_pay7, k0_pay6, k0_pay5, k0_pay4, Cert.MlpDyRefIdeal.Value.res_main_v41]
  rw [h0, h1, h2, h3, h4, h5]
  refine Eq.trans ?_ (sum_assoc _ _ _ _).symm
  have eG : ∀ x : Fin 1024, iblk m c 3 t (ix2 0 x) = m ((c : Thread nD τ).loc main_arg2) (ix1 x) := by
    intro x
    blk_simp [iblk, idx t]
    entry_read
    pointwise
    blk_ext [idx t]
  have eD : iblk m c 4 t y = m ((c : Thread nD τ).loc main_arg5) (ix2 r q) := by
    blk_simp [iblk, V_main_arg5, idx t]
    blk_ext [idx t]
  obtain rfl : q = y 1 := Fin.ext hq
  simp only [eG, eG (y 1), eD, hP y r _ hr hq, hR y r _ hr hq, fun x => hP (ix2 (y 0) x) r x hr rfl, fun x => hR (ix2 (y 0) x) r x hr rfl]

/-- The rows' gradient after the run is the reference's. -/
theorem final_rows : (dats m 0 c).arrAt 5 cfg0.N = Cert.MlpDyRefIdeal.Value.res_main_v41 (F := Ideal) m' c := by
  refine (dats m 0 c).arrAt_eq_of_covers 5 _ (by decide +kernel) fun t hf y => ?_
  blk_simp; rw [after0_5, rows]
  refine (rows_at m m' c h0 h1 h2 h3 h4 h5 t y (win0_5.blk t |>.view.emb y 0) (win0_5.blk t |>.view.emb y 1) ?_ ?_).trans ?_
  · blk_simp [idx t]
  · blk_simp [idx t]
  · exact congrArg _ (ix2_eta _)

/-- The sum over the rows is written of the rows' gradient. -/
theorem sum_form : Cert.MlpDyRefIdeal.Value.res_main_v46 (F := Ideal) m' c
    = (shapeCast Cert.MlpDyRefIdeal.S1x1024 (Host.reduceAdd (shapeCast Cert.MlpDyRefIdeal.S1x1024
        (Host.reduceAdd (Cert.MlpDyRefIdeal.Value.res_main_v41 (F := Ideal) m' c : FVec Ideal Cert.MlpDyRefIdeal.S4096x1024 .f32)
          (constant Cert.MlpDyRefIdeal.S_ .f32 0x00000000#32) Cert.MlpDyRefIdeal.Gen.reducesTo_S4096x1024_S1024_d0
          Cert.MlpDyRefIdeal.Gen.h_S_) Cert.MlpDyRefIdeal.Gen.shapeCasts_S1024_S1x1024)
        (constant Cert.MlpDyRefIdeal.S_ .f32 0x00000000#32) Cert.MlpDyRefIdeal.Gen.reducesTo_S1x1024_S1024_d0
        Cert.MlpDyRefIdeal.Gen.h_S_) Cert.MlpDyRefIdeal.Gen.shapeCasts_S1024_S1x1024 : FVec Ideal Cert.MlpDyRefIdeal.S1x1024 .f32) := by
  unfold Cert.MlpDyRefIdeal.Value.res_main_v46 Cert.MlpDyRefIdeal.Value.res_main_v41
  rfl

omit h0 h1 h2 h3 h4 h5 in
/-- The sum over the rows, read at an index. -/
theorem sum_at (R : FVec Ideal Cert.MlpDyRefIdeal.S4096x1024 .f32) (j : Cert.MlpDyRefIdeal.S1x1024.Idx) :
    (shapeCast Cert.MlpDyRefIdeal.S1x1024 (Host.reduceAdd (shapeCast Cert.MlpDyRefIdeal.S1x1024
        (Host.reduceAdd R
          (constant Cert.MlpDyRefIdeal.S_ .f32 0x00000000#32) Cert.MlpDyRefIdeal.Gen.reducesTo_S4096x1024_S1024_d0
          Cert.MlpDyRefIdeal.Gen.h_S_) Cert.MlpDyRefIdeal.Gen.shapeCasts_S1024_S1x1024)
        (constant Cert.MlpDyRefIdeal.S_ .f32 0x00000000#32) Cert.MlpDyRefIdeal.Gen.reducesTo_S1x1024_S1024_d0
        Cert.MlpDyRefIdeal.Gen.h_S_) Cert.MlpDyRefIdeal.Gen.shapeCasts_S1024_S1x1024 : FVec Ideal Cert.MlpDyRefIdeal.S1x1024 .f32) j
      = ∑ r : Fin 4096, R (ix2 r (j 1)) := by
  pointwise
  exact sum_one _

omit h0 h1 h2 h3 h4 h5 in
/-- A point's sum over its rows, read at an index. -/
theorem part_at (a b : FVec Ideal S512x1024 .f32) (v : FVec Ideal S1x1024 .f32) (w : FVec Ideal S512x1024 .f32)
    (d e : FVec Ideal S512x1 .f32) (j : S1x1024.Idx) :
    k0_pay11 a b v w d e j = ∑ k : Fin 512, k0_pay10 a b v w d e (ix2 k (j 1)) := by
  pointwise [k0_pay11]

/-- The sum over the rows after the run is the reference's. -/
theorem final_sum : (dats m 0 c).arrAt 7 cfg0.N = Cert.MlpDyRefIdeal.Value.res_main_v46 (F := Ideal) m' c := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h h]; frame_out; rw [sum_add, sum_zero])
    (fun t h j => by rw [outsAt0_B m c t h h]; frame_out; rw [sum_add])
    (le_of_eq N_0) t0_7 rfl j, zero_add]
  refine Eq.trans ?_ ((congrFun (sum_form m m' c h0 h1 h2 h3 h4 h5) j).trans (sum_at _ j)).symm
  refine (Finset.sum_congr rfl fun p _ => part_at _ _ _ _ _ _ _).trans ?_
  refine Fin.sum_mul_add_congr fun s k hl => ?_
  exact rows_at m m' c h0 h1 h2 h3 h4 h5 s _ _ _ rfl rfl

omit h0 h1 h2 h3 h4 h5 in
/-- The two programs' results are equal, from memories that agree on the arguments. -/
theorem algebraic : Cert.algebraic_MlpDyIdeal_MlpDyRefIdeal := by
  intro m g m' g' _ hagree
  refine ⟨fun c => (dats m 0 c).arrAt 5 cfg0.N, fun c => (dats m 0 c).arrAt 6 cfg0.N, fun c => (dats m 0 c).arrAt 7 cfg0.N,
    Value.run_blocks m g, (θ_run _ _ _).mono (fun r h c => ?_) (Cert.MlpDyRefIdeal.Value.run m' g')⟩
  obtain ⟨h0, h1, h2, h3, h4, h5⟩ := hagree c
  refine ⟨(h c).1.trans (final_rows m m' c h0 h1 h2 h3 h4 h5).symm, (h c).2.1.trans ?_,
    (h c).2.2.1.trans (final_sum m m' c h0 h1 h2 h3 h4 h5).symm, (h c).2.2.2⟩
  clear h
  rw [h0, h1, h3, h4]
  symm
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h h]; frame_out; rw [scale_add, scale_zero])
    (fun t h j => by rw [outsAt0_B m c t h h]; frame_out; rw [scale_add])
    (le_of_eq N_0) t0_7 rfl j, zero_add]
  pointwise
  refine Eq.trans ?_ (sum_one _).symm
  refine Fin.sum_mul_add_congr fun s k hl => ?_
  have hP := prod m c _ _ rfl rfl s
  have hR := resid m c _ _ rfl rfl s
  change k0_pay4 (iblk m c 2 s) (ix2 k (j 1)) * k0_pay9 (k0_pay6 (iblk m c 2 s)) k0_pay7 (ix2 k 0) * product m c s (ix2 k (j 1)) = _
  generalize product m c s = P at hP ⊢
  generalize iblk m c 2 s = R at hR ⊢
  pointwise [k0_pay4, k0_pay6, k0_pay7, k0_pay8, k0_pay9]
  simp only [hP (ix2 k (j 1)) ⟨s.val * 512 + k.val, hl⟩ (j 1) rfl rfl, hR (ix2 k (j 1)) ⟨s.val * 512 + k.val, hl⟩ (j 1) rfl rfl,
    fun x => hR (ix2 k x) ⟨s.val * 512 + k.val, hl⟩ x rfl rfl]

end Cert.MlpDyIdeal.Hand

end
-- ==== Proof.DyQkv.lean ====
/- The gradient of the attention's RMS normalisation, fused with the product of the projections' gradient with the
   transposed weights: each block of rows is the reference's rows, and the scale's gradient, added up block after block,
   is the reference's sum over all rows. -/
module

public import proofs.«01_k».proof.Defs
public import proofs.«01_k».proof.Proof.Gen.DyQkvIdeal.Value
public import proofs.«01_k».proof.Proof.Gen.DyQkvRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.DyQkvIdeal.Hand

open Cert.Common Cert.DyQkvIdeal Cert.DyQkvIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- What a point writes of the rows' gradient: the payloads of its blocks. -/
theorem rows (c : Dev nD) (t : Fin cfg0.N) :
    (outsAt0 m c t.val t.isLt).1 = k0_pay1 (iblk m c 2 t) (iblk m c 4 t)
      (k0_pay9 (iblk m c 0 t) (iblk m c 1 t) (iblk m c 2 t) (iblk m c 3 t))
      (k0_pay10 (iblk m c 0 t) (iblk m c 1 t) (iblk m c 2 t) (iblk m c 3 t)) := by
  by_cases h : t.val % 8 = 0
  · rw [outsAt0_A m c t h]; frame_out
  · rw [outsAt0_B m c t h]; frame_out

/-- The scale's gradient starts at zero. -/
theorem scale_zero (j : S1x1024.Idx) : k0_pay2 (F := Ideal) j = 0 := by pointwise [k0_pay2]

/-- A point adds its rows' part to what the scale's gradient held. -/
theorem scale_add (v w : FVec Ideal S1x1024 .f32) (j : S1x1024.Idx) : k0_pay3 v w j = w j + v j := by
  pointwise [k0_pay3]

variable (m' : (ℓ : Loc Cert.DyQkvRefIdeal.nD Cert.DyQkvRefIdeal.τ Cert.DyQkvRefIdeal.sig) → Buf (Elt Ideal) ℓ) (c : Dev nD)
  (h0 : m' ((c : Thread nD τ).loc Cert.DyQkvRefIdeal.main_arg0) = m ((c : Thread nD τ).loc main_arg0))
  (h1 : m' ((c : Thread nD τ).loc Cert.DyQkvRefIdeal.main_arg1) = m ((c : Thread nD τ).loc main_arg1))
  (h2 : m' ((c : Thread nD τ).loc Cert.DyQkvRefIdeal.main_arg2) = m ((c : Thread nD τ).loc main_arg2))
  (h3 : m' ((c : Thread nD τ).loc Cert.DyQkvRefIdeal.main_arg3) = m ((c : Thread nD τ).loc main_arg3))
  (h4 : m' ((c : Thread nD τ).loc Cert.DyQkvRefIdeal.main_arg4) = m ((c : Thread nD τ).loc main_arg4))
include h0 h1 h2 h3 h4

/-- The rows' gradient after the run is the reference's. -/
theorem final_rows : (dats m 0 c).arrAt 5 cfg0.N = Cert.DyQkvRefIdeal.Value.res_main_v38 (F := Ideal) m' c := by
  refine (dats m 0 c).arrAt_eq_of_covers 5 _ (by decide +kernel) fun t hf y => ?_
  blk_simp; rw [after0_5, rows]
  pointwise [k0_pay1, k0_pay4, k0_pay5, k0_pay6, k0_pay8, k0_pay9, k0_pay10, Cert.DyQkvRefIdeal.Value.res_main_v38]
  rw [h0, h1, h2, h3, h4]
  refine Eq.trans ?_ (sum_assoc _ _ _ _).symm
  blk_point [iblk, V_main_arg0, V_main_arg4, idx t]

omit h0 h1 h2 h3 h4 in
/-- The two programs' results are equal, from memories that agree on the arguments. -/
theorem algebraic : Cert.algebraic_DyQkvIdeal_DyQkvRefIdeal := by
  intro m g m' g' _ hagree
  refine ⟨fun c => (dats m 0 c).arrAt 5 cfg0.N, fun c => (dats m 0 c).arrAt 6 cfg0.N, Value.run_blocks m g,
    (θ_run _ _ _).mono (fun r h c => ?_) (Cert.DyQkvRefIdeal.Value.run m' g')⟩
  obtain ⟨h0, h1, h2, h3, h4⟩ := hagree c
  refine ⟨(h c).1.trans (final_rows m m' c h0 h1 h2 h3 h4).symm, (h c).2.1.trans ?_, (h c).2.2⟩
  clear h
  rw [h0, h2, h3]
  symm
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h]; frame_out; rw [scale_add, scale_zero])
    (fun t h j => by rw [outsAt0_B m c t h]; frame_out; rw [scale_add])
    (le_of_eq N_0) t0_7 rfl j, zero_add]
  pointwise [k0_pay7, k0_pay4, k0_pay6, k0_pay5]
  refine Eq.trans ?_ (sum_one _).symm
  refine Fin.sum_mul_add_congr fun s k hl => ?_
  blk_point [iblk, V_main_arg0, V_main_arg4, idx s]

end Cert.DyQkvIdeal.Hand

end
-- ==== Proof.DyIn.lean ====
/- The gradient of the first layer's RMS normalisation, fused with the product of the projections' gradient with the
   transposed weights, both padded with zero columns: the padding adds nothing to the product, each block of rows is the
   reference's rows, and the scale's gradient, added up block after block, is the reference's sum over all rows. -/
module

public import proofs.«01_k».proof.Defs
public import proofs.«01_k».proof.Proof.Gen.DyInIdeal.Value
public import proofs.«01_k».proof.Proof.Gen.DyInRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.DyInIdeal.Hand

open Cert.Common Cert.DyInIdeal Cert.DyInIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- What a point writes of the rows' gradient: the payloads of its blocks. -/
theorem rows (c : Dev nD) (t : Fin cfg0.N) :
    (outsAt0 m c t.val t.isLt).1 = k0_pay1 (iblk m c 2 t) (iblk m c 4 t)
      (k0_pay9 (iblk m c 0 t) (iblk m c 1 t) (iblk m c 2 t) (iblk m c 3 t))
      (k0_pay10 (iblk m c 0 t) (iblk m c 1 t) (iblk m c 2 t) (iblk m c 3 t)) := by
  by_cases h : t.val % 16 = 0
  · rw [outsAt0_A m c t h]; frame_out
  · rw [outsAt0_B m c t h]; frame_out

/-- The scale's gradient starts at zero. -/
theorem scale_zero (j : S1x1024.Idx) : k0_pay2 (F := Ideal) j = 0 := by pointwise [k0_pay2]

/-- A point adds its rows' part to what the scale's gradient held. -/
theorem scale_add (v w : FVec Ideal S1x1024 .f32) (j : S1x1024.Idx) : k0_pay3 v w j = w j + v j := by
  pointwise [k0_pay3]

variable (m' : (ℓ : Loc Cert.DyInRefIdeal.nD Cert.DyInRefIdeal.τ Cert.DyInRefIdeal.sig) → Buf (Elt Ideal) ℓ) (c : Dev nD)
  (h0 : m' ((c : Thread nD τ).loc Cert.DyInRefIdeal.main_arg0) = m ((c : Thread nD τ).loc main_arg0))
  (h1 : m' ((c : Thread nD τ).loc Cert.DyInRefIdeal.main_arg1) = m ((c : Thread nD τ).loc main_arg1))
  (h2 : m' ((c : Thread nD τ).loc Cert.DyInRefIdeal.main_arg2) = m ((c : Thread nD τ).loc main_arg2))
  (h3 : m' ((c : Thread nD τ).loc Cert.DyInRefIdeal.main_arg3) = m ((c : Thread nD τ).loc main_arg3))
  (h4 : m' ((c : Thread nD τ).loc Cert.DyInRefIdeal.main_arg4) = m ((c : Thread nD τ).loc main_arg4))
include h0 h1 h2 h3 h4

omit h0 h1 h2 h3 h4 in
/-- The product of the padded operands is the sum over the columns they were given with. -/
theorem prod (A : FVec Ideal S4096x5136 .f32) (B : FVec Ideal S1024x5136 .f32)
    (hA : m ((c : Thread nD τ).loc main_arg3) = A) (hB : m ((c : Thread nD τ).loc main_arg2) = B)
    (t : Fin cfg0.N) (y : S256x1024.Idx) (r : Fin 4096) (q : Fin 1024) (hr : r.val = t.val * 256 + y 0) (hq : q.val = y 1) :
    k0_pay4 (F := Ideal) (iblk m c 0 t) (iblk m c 1 t) y = ∑ k : Fin 5136, A (ix2 r k) * B (ix2 q k) := by
  subst hA hB
  pointwise [k0_pay4]
  refine sum_padded (a := 5136) (b := 240) rfl _ _ (fun k => ?_) (fun k hk => ?_)
  · refine congrArg₂ (· * ·) ?_ ?_
    · blk_simp [iblk, idx t]
      entry_read
      pointwise
      refine (dif_pos ?_).trans ?_
      · blk_simp [idx t]
        exact k.isLt
      · blk_ext [idx t]
    · blk_simp [iblk, idx t]
      entry_read
      pointwise
      refine (dif_pos ?_).trans ?_
      · blk_simp [idx t]
        exact k.isLt
      · blk_ext [idx t]
  · refine mul_eq_zero_of_left ?_ _
    blk_simp [iblk, idx t]
    entry_read
    pointwise
    refine dif_neg ?_
    blk_simp [idx t]
    omega

/-- The rows' gradient after the run is the reference's. -/
theorem final_rows : (dats m 0 c).arrAt 5 cfg0.N = Cert.DyInRefIdeal.Value.res_main_v38 (F := Ideal) m' c := by
  refine (dats m 0 c).arrAt_eq_of_covers 5 _ (by decide +kernel) fun t hf y => ?_
  blk_simp; rw [after0_5, rows]
  pointwise [k0_pay1, k0_pay5, k0_pay6, k0_pay8, k0_pay9, k0_pay10, Cert.DyInRefIdeal.Value.res_main_v38]
  rw [h0, h1, h2, h3, h4]
  refine Eq.trans ?_ (sum_assoc _ _ _ _).symm
  have hP := prod m c _ _ rfl rfl t
  generalize k0_pay4 (F := Ideal) (iblk m c 0 t) (iblk m c 1 t) = P at hP ⊢
  blk_point [iblk, V_main_arg0, V_main_arg4, idx t]
  · exact congrArg (· * _) (hP _ _ _ (by blk_simp [idx t]) (by blk_simp [idx t]))
  · exact congrArg (· * _) (hP _ _ _ (by blk_simp [idx t]) rfl)

omit h0 h1 h2 h3 h4 in
/-- The two programs' results are equal, from memories that agree on the arguments. -/
theorem algebraic : Cert.algebraic_DyInIdeal_DyInRefIdeal := by
  intro m g m' g' _ hagree
  refine ⟨fun c => (dats m 0 c).arrAt 5 cfg0.N, fun c => (dats m 0 c).arrAt 6 cfg0.N, Value.run_blocks m g,
    (θ_run _ _ _).mono (fun r h c => ?_) (Cert.DyInRefIdeal.Value.run m' g')⟩
  obtain ⟨h0, h1, h2, h3, h4⟩ := hagree c
  refine ⟨(h c).1.trans (final_rows m m' c h0 h1 h2 h3 h4).symm, (h c).2.1.trans ?_, (h c).2.2⟩
  clear h
  rw [h0, h2, h3]
  symm
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by rw [outsAt0_A m c t h]; frame_out; rw [scale_add, scale_zero])
    (fun t h j => by rw [outsAt0_B m c t h]; frame_out; rw [scale_add])
    (le_of_eq N_0) t0_15 rfl j, zero_add]
  pointwise [k0_pay7, k0_pay6, k0_pay5]
  refine Eq.trans ?_ (sum_one _).symm
  refine Fin.sum_mul_add_congr fun s k hl => ?_
  have hP := prod m c _ _ rfl rfl s
  generalize k0_pay4 (F := Ideal) (iblk m c 0 s) (iblk m c 1 s) = P at hP ⊢
  blk_point [iblk, V_main_arg0, V_main_arg4, idx s]
  exact congrArg (_ * ·) (hP _ _ _ rfl rfl)

end Cert.DyInIdeal.Hand

end
-- ==== Proof.Loss.lean ====
/- The second residual block's end: the final RMS normalisation, the squared-error loss and their gradient in one pass
   over the rows. Each block of rows is the reference's rows; the scale's gradient and the loss, added up block after
   block, are the reference's sums over all rows. -/
module

public import proofs.«01_k».proof.Defs
public import proofs.«01_k».proof.Proof.Gen.LossIdeal.Value
public import proofs.«01_k».proof.Proof.Gen.LossRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.LossIdeal.Hand

open Cert.Common Cert.LossIdeal Cert.LossIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, 0]
    ∧ win0_7.index t = ![0, 0] :=
  (by decide +kernel : ∀ t : Fin grid0.N, _)

/-- What a point writes of the rows' gradient: the payloads of its blocks. -/
abbrev rowsGrad (c : Dev nD) (t : Fin cfg0.N) : FVec Ideal S512x1024 .f32 :=
  k0_pay16 (k0_pay5 (iblk m c 3 t)) (k0_pay6 (iblk m c 0 t) (iblk m c 1 t) (iblk m c 2 t))
    (k0_pay8 (iblk m c 0 t) (iblk m c 1 t) (iblk m c 2 t)) (k0_pay9 (iblk m c 0 t) (iblk m c 1 t) (iblk m c 2 t))
    (k0_pay12 (iblk m c 0 t) (iblk m c 1 t) (iblk m c 2 t) (iblk m c 3 t) (iblk m c 4 t))

theorem rows (c : Dev nD) (t : Fin cfg0.N) : (outsAt0 m c t.val t.isLt).1 = rowsGrad m c t := by
  by_cases h : t.val % 8 = 0
  · rw [outsAt0_A m c t h h]; frame_out
  · rw [outsAt0_B m c t h h]; frame_out

/-- The scale's gradient starts at zero. -/
theorem scale_zero (j : S1x1024.Idx) : k0_pay1 (F := Ideal) j = 0 := by pointwise [k0_pay1]

/-- The loss starts at zero. -/
theorem loss_zero (j : S1x128.Idx) : k0_pay3 (F := Ideal) j = 0 := by pointwise [k0_pay3]

/-- A point adds its rows' part to what the scale's gradient held. -/
theorem scale_add (v w : FVec Ideal S1x1024 .f32) (j : S1x1024.Idx) : k0_pay2 v w j = w j + v j := by
  pointwise [k0_pay2]

/-- A point adds its rows' part to what the loss held. -/
theorem loss_add (v w : FVec Ideal S1x128 .f32) (j : S1x128.Idx) : k0_pay4 v w j = w j + v j := by
  pointwise [k0_pay4]

/-- The gradient of a row's mean squared error: half of twice the error, over the row's length. -/
theorem err_grad (v : FVec Ideal S512x1024 .f32) (y : S512x1024.Idx) :
    k0_pay14 v y = Ideal.div (Ideal.ofBits FTy.f32 0x3F000000#32) (Ideal.ofBits FTy.f32 0x44800000#32) * v y := by
  pointwise [k0_pay14]
  exact congrArg (· * v y) ((sum_one _).trans (congrArg (Ideal.div · _) ((sum_one _).trans (sum_one _))))

/-- The residual stream after the block's products. -/
theorem resid (c : Dev nD) (A : FVec Ideal S4096x1024 .f32) (B : FVec Ideal S4096x4096 .f32) (C : FVec Ideal S4096x1024 .f32)
    (hA : m ((c : Thread nD τ).loc main_arg0) = A) (hB : m ((c : Thread nD τ).loc main_arg1) = B)
    (hC : m ((c : Thread nD τ).loc main_arg2) = C)
    (t : Fin cfg0.N) (y : S512x1024.Idx) (r : Fin 4096) (q : Fin 1024) (hr : r.val = t.val * 512 + y 0) (hq : q.val = y 1) :
    k0_pay6 (F := Ideal) (iblk m c 0 t) (iblk m c 1 t) (iblk m c 2 t) y
      = A (ix2 r q) + ∑ k : Fin 4096, max (B (ix2 r k)) 0 * max (B (ix2 r k)) 0 * C (ix2 k q) := by
  subst hA hB hC
  pointwise [k0_pay6]
  refine (add_comm _ _).trans (congrArg₂ (· + ·) ?_ (Finset.sum_congr rfl fun k _ => ?_))
  · blk_simp [iblk, V_main_arg0, idx t]
    blk_ext [idx t]
  · have e : iblk m c 0 t (ix2 (y 0) k) = m ((c : Thread nD τ).loc main_arg1) (ix2 r k) := by
      blk_simp [iblk, idx t]
      entry_read
      pointwise
      blk_ext [idx t]
    refine congrArg₂ (· * ·) (by rw [e]) ?_
    blk_simp [iblk, idx t]
    entry_read
    pointwise
    blk_ext [idx t]

/-- The scale's row. -/
theorem scale_row (c : Dev nD) (t : Fin cfg0.N) (x : Fin 1024) :
    iblk m c 3 t (ix2 0 x) = m ((c : Thread nD τ).loc main_arg3) (ix1 x) := by
  blk_simp [iblk, idx t]
  entry_read
  pointwise
  blk_ext [idx t]

/-- A point's rows of the target. -/
theorem target_at (c : Dev nD) (t : Fin cfg0.N) (y : S512x1024.Idx) (r : Fin 4096) (q : Fin 1024)
    (hr : r.val = t.val * 512 + y 0) (hq : q.val = y 1) :
    iblk m c 4 t y = m ((c : Thread nD τ).loc main_arg4) (ix2 r q) := by
  blk_simp [iblk, V_main_arg4, idx t]
  blk_ext [idx t]

variable (m' : (ℓ : Loc Cert.LossRefIdeal.nD Cert.LossRefIdeal.τ Cert.LossRefIdeal.sig) → Buf (Elt Ideal) ℓ) (c : Dev nD)
  (h0 : m' ((c : Thread nD τ).loc Cert.LossRefIdeal.main_arg0) = m ((c : Thread nD τ).loc main_arg0))
  (h1 : m' ((c : Thread nD τ).loc Cert.LossRefIdeal.main_arg1) = m ((c : Thread nD τ).loc main_arg1))
  (h2 : m' ((c : Thread nD τ).loc Cert.LossRefIdeal.main_arg2) = m ((c : Thread nD τ).loc main_arg2))
  (h3 : m' ((c : Thread nD τ).loc Cert.LossRefIdeal.main_arg3) = m ((c : Thread nD τ).loc main_arg3))
  (h4 : m' ((c : Thread nD τ).loc Cert.LossRefIdeal.main_arg4) = m ((c : Thread nD τ).loc main_arg4))
include h0 h1 h2 h3 h4

/-- The rows' gradient at a point, read at an index, is the reference's. -/
theorem rows_at (t : Fin cfg0.N) (y : S512x1024.Idx) (r : Fin 4096) (q : Fin 1024) (hr : r.val = t.val * 512 + y 0)
    (hq : q.val = y 1) : rowsGrad m c t y = Cert.LossRefIdeal.Value.res_main_v54 (F := Ideal) m' c (ix2 r q) := by
  have hR := resid m c _ _ _ rfl rfl rfl t
  have hT := target_at m c t
  have hG := scale_row m c t
  obtain rfl : q = y 1 := Fin.ext hq
  pointwise [k0_pay16, k0_pay5, k0_pay8, k0_pay9, k0_pay7, k0_pay12, k0_pay11, k0_pay10, Cert.LossRefIdeal.Value.res_main_v54]
  rw [h0, h1, h2, h3, h4]
  generalize k0_pay6 (iblk m c 0 t) (iblk m c 1 t) (iblk m c 2 t) = R at hR ⊢
  simp only [err_grad]
  pointwise [k0_pay12, k0_pay11, k0_pay10]
  simp only [hG, hG (y 1), hR y r _ hr hq, hT y r _ hr hq, fun x => hR (ix2 (y 0) x) r x hr rfl, fun x => hT (ix2 (y 0) x) r x hr rfl]

/-- The rows' gradient after the run is the reference's. -/
theorem final_rows : (dats m 0 c).arrAt 5 cfg0.N = Cert.LossRefIdeal.Value.res_main_v54 (F := Ideal) m' c := by
  refine (dats m 0 c).arrAt_eq_of_covers 5 _ (by decide +kernel) fun t hf y => ?_
  blk_simp; rw [after0_5, rows]
  refine (rows_at m m' c h0 h1 h2 h3 h4 t y (win0_5.blk t |>.view.emb y 0) (win0_5.blk t |>.view.emb y 1) ?_ ?_).trans ?_
  · blk_simp [idx t]
  · blk_simp [idx t]
  · exact congrArg _ (ix2_eta _)

/-- The scale's gradient after the run is the reference's. -/
theorem final_scale : (dats m 0 c).arrAt 6 cfg0.N = Cert.LossRefIdeal.Value.res_main_v55 (F := Ideal) m' c := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h h]; frame_out; rw [scale_add, scale_zero])
    (fun t h j => by rw [outsAt0_B m c t h h]; frame_out; rw [scale_add])
    (le_of_eq N_0) t0_7 rfl j, zero_add]
  pointwise [k0_pay15, Cert.LossRefIdeal.Value.res_main_v55]
  rw [h0, h1, h2, h3, h4]
  refine Eq.trans ?_ (sum_one _).symm
  refine Fin.sum_mul_add_congr fun s k hl => ?_
  have hR := resid m c _ _ _ rfl rfl rfl s
  have hT := target_at m c s
  have hG := scale_row m c s
  simp only [err_grad]
  pointwise [k0_pay8, k0_pay7, k0_pay12, k0_pay11, k0_pay10, k0_pay5]
  generalize k0_pay6 (iblk m c 0 s) (iblk m c 1 s) (iblk m c 2 s) = R at hR ⊢
  simp only [hG, hG (j 1), hR (ix2 k (j 1)) ⟨s.val * 512 + k.val, hl⟩ (j 1) rfl rfl, hT (ix2 k (j 1)) ⟨s.val * 512 + k.val, hl⟩ (j 1) rfl rfl,
    fun x => hR (ix2 k x) ⟨s.val * 512 + k.val, hl⟩ x rfl rfl]

/-- The loss after the run is the reference's. -/
theorem final_loss : (dats m 0 c).arrAt 7 cfg0.N = Cert.LossRefIdeal.Value.res_main_v56 (F := Ideal) m' c := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h h]; frame_out; rw [loss_add, loss_zero])
    (fun t h j => by rw [outsAt0_B m c t h h]; frame_out; rw [loss_add])
    (le_of_eq N_0) t0_7 rfl j, zero_add]
  pointwise [k0_pay17, k0_pay13, Cert.LossRefIdeal.Value.res_main_v56]
  rw [h0, h1, h2, h3, h4]
  refine (half_sum _ _).symm.trans (congrArg _ ?_)
  refine Fin.sum_mul_add_congr fun s k hl => ?_
  have hR := resid m c _ _ _ rfl rfl rfl s
  have hT := target_at m c s
  have hG := scale_row m c s
  pointwise [k0_pay8, k0_pay7, k0_pay11, k0_pay10, k0_pay5]
  generalize k0_pay6 (iblk m c 0 s) (iblk m c 1 s) (iblk m c 2 s) = R at hR ⊢
  simp only [hG, fun x => hT (ix2 k x) ⟨s.val * 512 + k.val, hl⟩ x rfl rfl,
    fun x => hR (ix2 k x) ⟨s.val * 512 + k.val, hl⟩ x rfl rfl]

omit h0 h1 h2 h3 h4 in
/-- The two programs' results are equal, from memories that agree on the arguments. -/
theorem algebraic : Cert.algebraic_LossIdeal_LossRefIdeal := by
  intro m g m' g' _ hagree
  refine ⟨fun c => (dats m 0 c).arrAt 5 cfg0.N, fun c => (dats m 0 c).arrAt 6 cfg0.N, fun c => (dats m 0 c).arrAt 7 cfg0.N,
    Value.run_blocks m g, (θ_run _ _ _).mono (fun r h c => ?_) (Cert.LossRefIdeal.Value.run m' g')⟩
  obtain ⟨h0, h1, h2, h3, h4⟩ := hagree c
  exact ⟨(h c).1.trans (final_rows m m' c h0 h1 h2 h3 h4).symm, (h c).2.1.trans (final_scale m m' c h0 h1 h2 h3 h4).symm,
    (h c).2.2.1.trans (final_loss m m' c h0 h1 h2 h3 h4).symm, (h c).2.2.2⟩

end Cert.LossIdeal.Hand

end
-- ==== Proof.AttnTile.lean ====
/- One block of the attention's backward pass, as operations on tiles: the eight heads of a group stand
   under each other in an array of 1024 rows, and a head is one of its runs of 128 rows. -/
module

public import proofs.«01_k».proof.Proof.Gen.AttnBwdIdeal.Skeleton
public import Idealize.ShloMosaic.Lib.Pipeline.ValueKit

@[expose] public section

noncomputable section

namespace Cert.AttnBwdIdeal.Hand

open Cert.AttnBwdIdeal Cert.AttnBwdIdeal.Gen Idealize.ShloMosaic

/-- A block of 128 queries or keys by 128 lanes or keys. -/
abbrev Tile := FVec Ideal S128x128 .f32
/-- The tiles of a group's eight heads, one under the other. -/
abbrev Tile8 := FVec Ideal S1024x128 .f32
/-- A number for each query. -/
abbrev Col := FVec Ideal S128x1 .f32

/-- What a step reads: the queries' and the result's gradient's column blocks, the keys and the values of the
    block before and of the block itself, the sinks, and whether there is no block before. -/
structure Reads where
  q : Fin 8 → Tile
  kp : Tile
  kc : Tile
  vp : Tile
  vc : Tile
  sink : FVec Ideal S1x128 .f32
  d : Fin 8 → Tile
  first : BitVec 1

def zt : Tile := broadcast S128x128 (Scalar.ofBits .f32 0x00000000#32)
def zt8 : Tile8 := broadcast S1024x128 (Scalar.ofBits .f32 0x00000000#32)
def scale (x : Tile) : Tile := mulf x (broadcast S128x128 (Scalar.ofBits .f32 0x3E000000#32))
/-- The left head's lanes of a column block. -/
def halfL (x : Tile) : Tile := select k0_pay5 x zt
/-- The right head's lanes of a column block. -/
def halfR (x : Tile) : Tile := select k0_pay5 zt x
def rot (x : Tile) : Tile := dynamicRotate 1 64#32 none x rotates_S128x128_d1
/-- The group's lanes of a block of keys or values, twice. -/
def both (g : Fin 2) (x : Tile) : Tile := match g with
  | 0 => select k0_pay5 x (rot x)
  | 1 => select k0_pay5 (rot x) x

def cat8 (a b c d e f g h : Tile) : Tile8 :=
  concatenate S1024x128 0 [⟨S128x128, a⟩, ⟨S128x128, b⟩, ⟨S128x128, c⟩, ⟨S128x128, d⟩, ⟨S128x128, e⟩, ⟨S128x128, f⟩,
    ⟨S128x128, g⟩, ⟨S128x128, h⟩]
    concatenates_S128x128_S128x128_S128x128_S128x128_S128x128_S128x128_S128x128_S128x128_S1024x128_d0
/-- The tiles of the eight heads. -/
def heads (f : Fin 8 → Tile) : Tile8 := cat8 (f 0) (f 1) (f 2) (f 3) (f 4) (f 5) (f 6) (f 7)
/-- Four column blocks of a group as its eight heads' tiles. -/
def split (a b c d : Tile) : Tile8 := cat8 (halfL a) (halfR a) (halfL b) (halfR b) (halfL c) (halfR c) (halfL d) (halfR d)
def split8 (x : Fin 8 → Tile) (g : Fin 2) : Tile8 := match g with
  | 0 => split (x 0) (x 1) (x 2) (x 3)
  | 1 => split (x 4) (x 5) (x 6) (x 7)

theorem slices8 (h : Fin 8) : S1024x128.Slices ![128 * h.val, 0] S128x128 := by revert h; decide
/-- A head's tile. -/
def rows (x : Tile8) (h : Fin 8) : Tile := extractStridedSlice S128x128 ![128 * h.val, 0] x (slices8 h)

def lo (x : Tile) : FVec Ideal S128x128 .bf16 := truncf .bf16 x bitsLt_bf16_f32
def lo8 (x : Tile8) : FVec Ideal S1024x128 .bf16 := truncf .bf16 x bitsLt_bf16_f32
/-- Rows by rows. -/
def nt {φ : FTy} (x : FVec Ideal S1024x128 φ) (k : Tile) : Tile8 :=
  matmul dot_S1024x128_S128x128_S1024x128_1_1_0_0_n_n none x (lo k) (constant S1024x128 .f32 0x00000000#32)
/-- Columns by columns. -/
def tn (x : Tile8) (y : Tile8) : Tile :=
  matmul dot_S1024x128_S1024x128_S128x128_0_0_1_1_n_n none x (lo8 y) (constant S128x128 .f32 0x00000000#32)
/-- Rows by columns. -/
def nn (x : Tile8) (k : Tile) : Tile8 :=
  matmul dot_S1024x128_S128x128_S1024x128_1_0_0_1_n_n none x (lo k) (constant S1024x128 .f32 0x00000000#32)
def thru8 (x : Tile8) : Tile8 := extf .f32 (lo8 x) bitsLt_bf16_f32
def thru (x : Tile) : Tile := extf .f32 (lo x) bitsLt_bf16_f32
def spread (c : Col) : Tile := broadcastTo S128x128 c broadcasts_S128x1_S128x128

/-- A head's scores. -/
def score (first : BitVec 1) (a b : Tile) : Tile :=
  select k0_pay6 (scale a) (Scalar.select first (broadcast S128x128 (Scalar.ofBits .f32 0xFF800000#32)) (scale b))
/-- A head's sink. -/
def sinkOf (x : FVec Ideal S1x128 .f32) (h : BitVec 32) : FVec Ideal S1x1 .f32 :=
  shapeCast S1x1 (multiReduction .add [1] S1
    (select (cmpi .eq (extractStridedSlice S1x128 ![0, 0] (iota .tc S128x128 32 [1] iota_S128x128_d1_w32) slices_S128x128_o0_0_S1x128)
      (broadcast S1x128 h)) x (broadcast S1x128 (Scalar.ofBits .f32 0x00000000#32)))
    0x00000000#32 reduces_S1x128_S1 (.inl rfl) rfl) shapeCasts_S1_S1x1
def sinkCol (k : FVec Ideal S1x1 .f32) : Col := broadcastTo S128x1 k broadcasts_S1x1_S128x1
def rowSum (x : Tile) : Col :=
  shapeCast S128x1 (multiReduction .add [1] S128 x 0x00000000#32 reduces_S128x128_S128 (.inl rfl) rfl) shapeCasts_S128_S128x1
def rowMax (s : Tile) (k : FVec Ideal S1x1 .f32) : Col :=
  maximumf (shapeCast S128x1 (multiReduction .maximumf [1] S128 s 0xFF800000#32 reduces_S128x128_S128 (.inl rfl) rfl)
    shapeCasts_S128_S128x1) (sinkCol k)
def pexp (s : Tile) (k : FVec Ideal S1x1 .f32) : Tile := exp (subf s (spread (rowMax s k)))
def den (s : Tile) (k : FVec Ideal S1x1 .f32) : Col := addf (rowSum (pexp s k)) (exp (subf (sinkCol k) (rowMax s k)))
def prob (s : Tile) (k : FVec Ideal S1x1 .f32) : Tile := divf (pexp s k) (spread (den s k))
def invsq (s : Tile) (k : FVec Ideal S1x1 .f32) : Col :=
  divf (broadcast S128x1 (Scalar.ofBits .f32 0x3F800000#32)) (mulf (den s k) (den s k))
/-- The gradient of a head's scores, from the gradient of its probabilities. -/
def dscore (s : Tile) (k : FVec Ideal S1x1 .f32) (dp : Tile) : Tile :=
  mulf (addf (divf dp (spread (den s k)))
    (spread (shapeCast S128x1 (multiReduction .add [1] S128
      (subf (broadcast S128x1 (Scalar.ofBits .f32 0x00000000#32)) (rowSum (mulf (mulf dp (spread (invsq s k))) (pexp s k))))
      0x00000000#32 reduces_S128x1_S128 (.inl rfl) rfl) shapeCasts_S128_S128x1))) (pexp s k)
def partPrev (first : BitVec 1) (ds : Tile) : Tile :=
  scale (Scalar.select first (broadcast S128x128 (Scalar.ofBits .f32 0x00000000#32)) (select k0_pay6 zt ds))
def partCur (ds : Tile) : Tile := scale (select k0_pay6 ds zt)

namespace Reads
variable (R : Reads)

def sc (g : Fin 2) (h : Fin 8) : Tile :=
  score R.first (rows (nt (lo8 (split8 R.q g)) (both g R.kc)) h) (rows (nt (lo8 (split8 R.q g)) (both g R.kp)) h)
def sk (g : Fin 2) (h : Fin 8) : FVec Ideal S1x1 .f32 := sinkOf R.sink (BitVec.ofNat 32 (8 * g.val + h.val))
def p (g : Fin 2) (h : Fin 8) : Tile := prob (R.sc g h) (R.sk g h)
/-- The gradient of the probabilities. -/
def dp8 (g : Fin 2) : Tile8 :=
  addf (select k0_pay7 zt8 (thru8 (nt (split8 R.d g) (both g R.vp)))) (select k0_pay7 (thru8 (nt (split8 R.d g) (both g R.vc))) zt8)
def ds (g : Fin 2) (h : Fin 8) : Tile := dscore (R.sc g h) (R.sk g h) (rows (R.dp8 g) h)
def prev8 (g : Fin 2) : Tile8 := heads fun h => partPrev R.first (R.ds g h)
def cur8 (g : Fin 2) : Tile8 := heads fun h => partCur (R.ds g h)
/-- The gradient of the queries of a group's heads. -/
def dq8 (g : Fin 2) : Tile8 := addf (thru8 (nn (R.prev8 g) (both g R.kp))) (thru8 (nn (R.cur8 g) (both g R.kc)))
/-- The gradient of the queries: one column block, of the heads `a` and `b` of a group. -/
def dq (g : Fin 2) (a b : Fin 8) : Tile := addf (halfR (rows (R.dq8 g) b)) (halfL (rows (R.dq8 g) a))
/-- The two groups' gradients of keys or values, folded to one block. -/
def fold2 (x0 x1 : Tile) : Tile :=
  addf (addf (halfR x1) (halfL x0)) (rot (addf (halfL x1) (halfR x0)))
def dkOf (f : Fin 2 → Tile8) : Tile := fold2 (thru (tn (f 0) (split8 R.q 0))) (thru (tn (f 1) (split8 R.q 1)))
def dvOf (f : Fin 2 → Tile8) : Tile :=
  fold2 (thru (transpose S128x128 [1, 0] (tn (split8 R.d 0) (f 0)) transposes_S128x128_p1_0_S128x128))
    (thru (transpose S128x128 [1, 0] (tn (split8 R.d 1) (f 1)) transposes_S128x128_p1_0_S128x128))
def dkc : Tile := R.dkOf R.cur8
def dkp : Tile := R.dkOf R.prev8
def dvc : Tile := R.dvOf fun g => select k0_pay7 (heads (R.p g)) zt8
def dvp : Tile := R.dvOf fun g => select k0_pay7 zt8 (heads (R.p g))
end Reads

end Cert.AttnBwdIdeal.Hand

end
-- ==== Proof.AttnOut.lean ====
/- What a step of the attention's backward pass writes, as the operations on tiles. -/
module

public import proofs.«01_k».proof.Defs
public import proofs.«01_k».proof.Proof.Gen.AttnBwdIdeal.Value
public import Idealize.ShloMosaic.Lib.Pipeline.ValueKit
public import Idealize.ShloMosaic.Lib.Pipeline.ReadBack
public import proofs.«01_k».proof.Proof.AttnTile

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem

variable (m : (ℓ : Loc nD τ sig) → Buf (Elt Ideal) ℓ)

theorem inbCol (p : Fin 8) : ∀ a, (![0, 128 * p.val] : Fin 2 → Nat) a + S128x128.size a ≤ S128x1024.size a := by
  revert p; decide

/-- What step `t` reads. -/
def reads (c : Dev nD) (t : Fin cfg0.N) : Reads where
  q p := View.ld (X0_0 m c t) (Rect.unit ![0, 128 * p.val] ![128, 128] (inbCol p))
  kp := iblk m c 1 t
  kc := iblk m c 2 t
  vp := iblk m c 3 t
  vc := iblk m c 4 t
  sink := k0_pay4 (iblk m c 5 t)
  d p := extf .f32 (shapeCast S128x128 (View.ld (iblk m c 6 t) (Rect.unit ![0, 128 * p.val] ![128, 128] (inbCol p)))
    shapeCasts_S128x128_S128x128) bitsLt_bf16_f32
  first := Scalar.cmpi CmpIPredicate.eq (Scalar.subi (31#32) (BitVec.ofNat 32 ↑(grid0.coords t 0))) 0#32

/-- The block of the gradient a step writes, with what is left from the step before. -/
def outBlock (R : Reads) (ck cv : FVec Ideal S1x128x128 .f32) : Vec Ideal S128x1280 .bf16 :=
  View.canon [
    ⟨Rect.unit ![0, 1152] ![128, 128] inb_S128x1280_S128x128_0_1152, lo (addf R.dvc (shapeCast S128x128 cv shapeCasts_S1x128x128_S128x128))⟩,
    ⟨Rect.unit ![0, 1024] ![128, 128] inb_S128x1280_S128x128_0_1024, lo (addf R.dkc (shapeCast S128x128 ck shapeCasts_S1x128x128_S128x128))⟩,
    ⟨Rect.unit ![0, 896] ![128, 128] inb_S128x1280_S128x128_0_896, lo (R.dq 1 6 7)⟩,
    ⟨Rect.unit ![0, 768] ![128, 128] inb_S128x1280_S128x128_0_768, lo (R.dq 1 4 5)⟩,
    ⟨Rect.unit ![0, 640] ![128, 128] inb_S128x1280_S128x128_0_640, lo (R.dq 1 2 3)⟩,
    ⟨Rect.unit ![0, 512] ![128, 128] inb_S128x1280_S128x128_0_512, lo (R.dq 1 0 1)⟩,
    ⟨Rect.unit ![0, 384] ![128, 128] inb_S128x1280_S128x128_0_384, lo (R.dq 0 6 7)⟩,
    ⟨Rect.unit ![0, 256] ![128, 128] inb_S128x1280_S128x128_0_256, lo (R.dq 0 4 5)⟩,
    ⟨Rect.unit ![0, 128] ![128, 128] inb_S128x1280_S128x128_0_128, lo (R.dq 0 2 3)⟩,
    ⟨Rect.unit ![0, 0] ![128, 128] inb_S128x1280_S128x128_0_0, lo (R.dq 0 0 1)⟩]

/-- What is left from the step before: the keys' part. -/
def leftK (w : Vec Ideal S2x128x128 .f32) : FVec Ideal S1x128x128 .f32 :=
  View.ld w (Rect.unit ![0, 0, 0] ![1, 128, 128] inb_S2x128x128_S1x128x128_0_0_0)
def leftV (w : Vec Ideal S2x128x128 .f32) : FVec Ideal S1x128x128 .f32 :=
  View.ld w (Rect.unit ![1, 0, 0] ![1, 128, 128] inb_S2x128x128_S1x128x128_1_0_0)

/-- What a step leaves for the next. -/
def leftBlock (R : Reads) (L : List (View.Piece (Elt Ideal) S2x128x128 .f32)) : Vec Ideal S2x128x128 .f32 :=
  View.canon (
    ⟨Rect.unit ![1, 0, 0] ![1, 128, 128] inb_S2x128x128_S1x128x128_1_0_0,
      shapeCast S1x128x128 (mulf R.dvp (broadcast S128x128 (k0_pay434 (F := Ideal) R.first))) shapeCasts_S128x128_S1x128x128⟩ ::
    ⟨Rect.unit ![0, 0, 0] ![1, 128, 128] inb_S2x128x128_S1x128x128_0_0_0,
      shapeCast S1x128x128 (mulf R.dkp (broadcast S128x128 (k0_pay434 (F := Ideal) R.first))) shapeCasts_S128x128_S1x128x128⟩ :: L)

/-- The store that empties what is left. -/
abbrev emptied : View.Piece (Elt Ideal) S2x128x128 .f32 :=
  ⟨Rect.unit ![0, 0, 0] ![2, 128, 128] inb_S2x128x128_S2x128x128_0_0_0, k0_pay3 (F := Ideal)⟩

/-- The keys' half of what is left before the first step. -/
def emptyK := (View.whole cc0_scratch0).readCov (Val := Elt Ideal) [emptied] (Rect.unit ![0, 0, 0] ![1, 128, 128] inb_S2x128x128_S1x128x128_0_0_0).toLoadRect

/-- The values' half. -/
def emptyV := (View.whole cc0_scratch0).readCov (Val := Elt Ideal) [emptied] (Rect.unit ![1, 0, 0] ![1, 128, 128] inb_S2x128x128_S1x128x128_1_0_0).toLoadRect

/-- What the step before a step left. -/
abbrev before (c : Dev nD) (t : Fin cfg0.N) : Vec Ideal S2x128x128 .f32 :=
  (outsAt0 m c (t.val - 1) (Nat.lt_of_le_of_lt (Nat.sub_le _ _) t.isLt)).2.2.2

set_option maxHeartbeats 4000000 in
/-- A step after the first. -/
theorem outB (c : Dev nD) (t : Fin cfg0.N) (h0 : ¬t.val % 32 = 0) :
    (outsAt0 m c t.val t.isLt).1 = outBlock (reads m c t) (leftK (before m c t)) (leftV (before m c t)) := by
  generalize hX : outBlock _ _ _ = X
  rw [outsAt0_B m c t h0]
  frame_out
  rw [read_unread_whole, ← hX]
  clear hX X
  unfold before
  generalize (outsAt0 m c (t.val - 1) _).2.2.2 = w
  dsimp only [outBlock, leftK, leftV, Reads.dq, Reads.dq8, Reads.prev8, Reads.cur8, Reads.ds, Reads.dp8, Reads.p, Reads.sc, Reads.sk, Reads.dkc, Reads.dkp,
    Reads.dvc, Reads.dvp, Reads.dkOf, Reads.dvOf, Reads.fold2, split8, split, both, heads, cat8, rows, halfL, halfR, rot, scale,
    zt, zt8, lo, lo8, nt, tn, nn, thru, thru8, spread, score, sinkOf, sinkCol, rowSum, rowMax, pexp, den, prob, invsq, dscore,
    partPrev, partCur, reads]
  rfl

set_option maxHeartbeats 4000000 in
/-- The first step. -/
theorem outA (c : Dev nD) (t : Fin cfg0.N) (h0 : t.val % 32 = 0) :
    (outsAt0 m c t.val t.isLt).1 = outBlock (reads m c t) emptyK emptyV := by
  generalize hX : outBlock _ _ _ = X
  rw [outsAt0_A m c t h0]
  frame_out
  rw [← hX]
  clear hX X
  dsimp only [outBlock, emptyK, emptyV, emptied, Reads.dq, Reads.dq8, Reads.prev8, Reads.cur8, Reads.ds, Reads.dp8, Reads.p, Reads.sc, Reads.sk, Reads.dkc, Reads.dkp,
    Reads.dvc, Reads.dvp, Reads.dkOf, Reads.dvOf, Reads.fold2, split8, split, both, heads, cat8, rows, halfL, halfR, rot, scale,
    zt, zt8, lo, lo8, nt, tn, nn, thru, thru8, spread, score, sinkOf, sinkCol, rowSum, rowMax, pexp, den, prob, invsq, dscore,
    partPrev, partCur, reads]
  rfl

set_option maxHeartbeats 4000000 in
/-- What is left after a step. -/
theorem leftB (c : Dev nD) (t : Fin cfg0.N) (h0 : ¬t.val % 32 = 0) :
    (outsAt0 m c t.val t.isLt).2.2.2 = leftBlock (reads m c t) [] := by
  generalize hX : leftBlock _ _ = X
  rw [outsAt0_B m c t h0]
  frame_out
  rw [← hX]
  clear hX X
  dsimp only [leftBlock, Reads.dq, Reads.dq8, Reads.prev8, Reads.cur8, Reads.ds, Reads.dp8, Reads.p, Reads.sc, Reads.sk, Reads.dkc, Reads.dkp,
    Reads.dvc, Reads.dvp, Reads.dkOf, Reads.dvOf, Reads.fold2, split8, split, both, heads, cat8, rows, halfL, halfR, rot, scale,
    zt, zt8, lo, lo8, nt, tn, nn, thru, thru8, spread, score, sinkOf, sinkCol, rowSum, rowMax, pexp, den, prob, invsq, dscore,
    partPrev, partCur, reads]
  rfl

set_option maxHeartbeats 4000000 in
/-- What is left after the first step. -/
theorem leftA (c : Dev nD) (t : Fin cfg0.N) (h0 : t.val % 32 = 0) :
    (outsAt0 m c t.val t.isLt).2.2.2 = leftBlock (reads m c t) [emptied] := by
  generalize hX : leftBlock _ _ = X
  rw [outsAt0_A m c t h0]
  frame_out
  rw [← hX]
  clear hX X
  dsimp only [leftBlock, Reads.dq, Reads.dq8, Reads.prev8, Reads.cur8, Reads.ds, Reads.dp8, Reads.p, Reads.sc, Reads.sk, Reads.dkc, Reads.dkp,
    Reads.dvc, Reads.dvp, Reads.dkOf, Reads.dvOf, Reads.fold2, split8, split, both, heads, cat8, rows, halfL, halfR, rot, scale,
    zt, zt8, lo, lo8, nt, tn, nn, thru, thru8, spread, score, sinkOf, sinkCol, rowSum, rowMax, pexp, den, prob, invsq, dscore,
    partPrev, partCur, reads]
  rfl

end Cert.AttnBwdIdeal.Hand

end
-- ==== Proof.AttnModel.lean ====
/- One head of the windowed attention with a sink, and its backward pass, as extended reals: query `t` reads the
   keys `t - 127` to `t`. -/
module

public import Idealize.ShloMosaic.Lib.Pipeline.ValueKit

@[expose] public section

noncomputable section

open Idealize.ShloMosaic
open scoped BigOperators

namespace Cert.Attn

/-- A head's queries, keys, values and result's gradient, and its sink. -/
structure Head where
  q : Fin 4096 → Fin 64 → EReal
  k : Fin 4096 → Fin 64 → EReal
  v : Fin 4096 → Fin 64 → EReal
  o : Fin 4096 → Fin 64 → EReal
  sink : EReal

/-- Query `t` reads key `s`. -/
abbrev keep (t s : Fin 4096) : Prop := s.val ≤ t.val ∧ t.val < s.val + 128

/-- One over the root of the head's length. -/
abbrev eighth : EReal := Ideal.ofBits .f32 0x3E000000#32

namespace Head
variable (H : Head) (t s : Fin 4096)

def score : EReal := if keep t s then (∑ d, H.k s d * H.q t d) * eighth else ⊥
def top : EReal := Finset.fold max ⊥ (fun s => H.score t s) Finset.univ
def shift : EReal := max (H.top t) H.sink
def pexp : EReal := Ideal.exp (H.score t s - H.shift t)
def esink : EReal := Ideal.exp (H.sink - H.shift t)
def den : EReal := ∑ s, H.pexp t s + H.esink t
def prob : EReal := Ideal.div (H.pexp t s) (H.den t)
/-- The gradient of the probabilities. -/
def dprob : EReal := ∑ d, H.o t d * H.v s d
/-- The gradient of the denominator. -/
def dden : EReal := -∑ s, H.dprob t s * Ideal.div 1 (H.den t * H.den t) * H.pexp t s
/-- The gradient of the shifted scores. -/
def dshifted : EReal := (Ideal.div (H.dprob t s) (H.den t) + H.dden t) * H.pexp t s
/-- The gradient of the products of queries and keys. -/
def dscore : EReal := (if keep t s then H.dshifted t s else 0) * eighth
/-- How many scores are the greatest. -/
def count : EReal := ∑ s, if H.score t s = H.top t then (1 : EReal) else (0 : EReal)
/-- The shift's gradient. -/
def dshift : EReal := -(H.dden t * H.esink t) + ∑ s, -H.dshifted t s
/-- The gradient of the queries. -/
def gradQ (d : Fin 64) : EReal := ∑ s, H.dscore t s * H.k s d
end Head

/-- The gradient of the keys, over the heads that read them. -/
def gradK (H : Fin 8 → Head) (s : Fin 4096) (d : Fin 64) : EReal := ∑ t, ∑ h, (H h).dscore t s * (H h).q t d

/-- The gradient of the values, over the heads that read them. -/
def gradV (H : Fin 8 → Head) (s : Fin 4096) (d : Fin 64) : EReal := ∑ h, ∑ t, (H h).o t d * (H h).prob t s

/-- A head of the arguments. -/
def head (A : FVec Ideal ⟨2, ![4096, 1280]⟩ .f32) (B : FVec Ideal ⟨2, ![1, 16]⟩ .f32) (C : FVec Ideal ⟨2, ![4096, 1024]⟩ .f32) (g : Fin 2) (h : Fin 8) : Head where
  q t d := A (ix2 t ⟨g.val * 512 + h.val * 64 + d.val, by omega⟩)
  k s d := A (ix2 s ⟨1024 + (g.val * 64 + d.val), by omega⟩)
  v s d := A (ix2 s ⟨1152 + (g.val * 64 + d.val), by omega⟩)
  o t d := C (ix2 t ⟨g.val * 512 + h.val * 64 + d.val, by omega⟩)
  sink := B (ix2 0 ⟨g.val * 8 + h.val, by omega⟩)

/-- The pattern of the value below all others. -/
theorem neg_inf : Ideal.ofBits FTy.f32 0xFF800000#32 = ⊥ := by
  simp [Ideal.ofBits, Ideal.ieee]

/-- The pattern of one eighth. -/
theorem eighth_eq : eighth = ((1 / 8 : ℝ) : EReal) := by
  simp [Ideal.ofBits, Ideal.ieee, -EReal.coe_mul]
  norm_num

end Cert.Attn

end
-- ==== Proof.AttnAt.lean ====
module

public import proofs.«01_k».proof.Defs
public import proofs.«01_k».proof.Proof.AttnTile
public import proofs.«01_k».proof.Proof.AttnModel
public import Idealize.ShloMosaic.Lib.Pointwise

/-! One step of the attention's gradient, entry by entry. -/

@[expose] public section

set_option maxRecDepth 16384

noncomputable section

namespace Cert.AttnBwdIdeal.Hand

open Cert.AttnBwdIdeal Cert.AttnBwdIdeal.Gen Cert.Attn Idealize.ShloMosaic Idealize.ShloMosaic.TcCoe
open scoped BigOperators

/-- Row `i` of head `h`. -/
def row8 (h : Fin 8) (i : Fin 128) : Fin 1024 := ⟨h.val * 128 + i.val, by omega⟩

theorem heads_at (f : Fin 8 → Tile) (h : Fin 8) (i l : Fin 128) : heads f (ix2 (row8 h i) l) = f h (ix2 i l) := by
  fin_cases h <;> pointwise [heads, cat8, row8] <;>
    (repeat rw [dif_neg (by omega)]) <;> (try rw [dif_pos (by omega)]) <;>
    exact congrArg (fun r => f _ (ix2 r l)) (Fin.ext (by dsimp only; omega))

theorem rows_at (x : Tile8) (h : Fin 8) (i l : Fin 128) : rows x h (ix2 i l) = x (ix2 (row8 h i) l) := by
  pointwise [rows, row8]
  exact congrArg (fun r => x (ix2 r l)) (Fin.ext (by show 128 * h.val + i.val = h.val * 128 + i.val; omega))

theorem rot_at (x : Tile) (i l m : Fin 128) (h : m.val = (l.val + 64) % 128) : rot x (ix2 i l) = x (ix2 i m) := by
  pointwise [rot]
  exact congrArg (fun r => x (ix2 i r)) (Fin.ext (by show (l.val + 128 - 64) % 128 = m.val; omega))

theorem word (n : Nat) (h : n < 2 ^ 31) : (BitVec.ofNat 32 n).toInt = n := by
  rw [BitVec.toInt_eq_toNat_of_lt] <;> simp <;> omega

theorem left_at (i l : Fin 128) : k0_pay5 (ix2 i l) = if l.val < 64 then 1#1 else 0#1 := by
  pointwise [k0_pay5]
  have h := word l.val (by omega)
  by_cases hl : l.val < 64
  · simp [IntOp.cmpi, BitVec.slt, h, hl]
  · simp [IntOp.cmpi, BitVec.slt, h, hl]

theorem own_at (i c : Fin 128) : k0_pay6 (ix2 i c) = if c.val ≤ i.val then 1#1 else 0#1 := by
  pointwise [k0_pay6]
  have h := word c.val (by omega)
  have h' := word i.val (by omega)
  by_cases hl : c.val ≤ i.val
  · simp [IntOp.cmpi, BitVec.sle, h, h', hl]
  · simp [IntOp.cmpi, BitVec.sle, h, h', hl]

theorem own8_at (h : Fin 8) (i c : Fin 128) : k0_pay7 (ix2 (row8 h i) c) = if c.val ≤ i.val then 1#1 else 0#1 := by
  rw [← own_at i c]
  fin_cases h <;> pointwise [k0_pay7, row8] <;>
    (repeat rw [dif_neg (by omega)]) <;> (try rw [dif_pos (by omega)]) <;>
    exact congrArg (fun r => k0_pay6 (ix2 r c)) (Fin.ext (by dsimp only; omega))

theorem halfL_at (x : Tile) (i l : Fin 128) : halfL x (ix2 i l) = if l.val < 64 then x (ix2 i l) else 0 := by
  pointwise [halfL, zt, left_at]
  split <;> rfl

theorem halfR_at (x : Tile) (i l : Fin 128) : halfR x (ix2 i l) = if l.val < 64 then 0 else x (ix2 i l) := by
  pointwise [halfR, zt, left_at]
  split <;> rfl

theorem nt_at {φ : FTy} (x : FVec Ideal S1024x128 φ) (k : Tile) (r : Fin 1024) (c : Fin 128) :
    nt x k (ix2 r c) = ∑ l : Fin 128, x (ix2 r l) * k (ix2 c l) := by
  pointwise [nt, lo]

theorem tn_at (x : Tile8) (k : Tile8) (r : Fin 128) (c : Fin 128) :
    tn x k (ix2 r c) = ∑ l : Fin 1024, x (ix2 l r) * k (ix2 l c) := by
  pointwise [tn, lo8]

theorem nn_at (x : Tile8) (k : Tile) (r : Fin 1024) (c : Fin 128) :
    nn x k (ix2 r c) = ∑ l : Fin 128, x (ix2 r l) * k (ix2 l c) := by
  pointwise [nn, lo]

theorem rowMax_at (s : Tile) (k : FVec Ideal S1x1 .f32) (i : Fin 128) :
    rowMax s k (ix2 i 0) = max (Finset.fold max ⊥ (fun c => s (ix2 i c)) Finset.univ) (k (ix2 0 0)) := by
  pointwise [rowMax, sinkCol]
  rw [neg_inf]

theorem sinkOf_at (x : FVec Ideal S1x128 .f32) (h : Fin 128) :
    sinkOf x (BitVec.ofNat 32 h.val) (ix2 0 0) = x (ix2 0 h) := by
  pointwise [sinkOf]
  rw [Finset.sum_eq_single h]
  · simp [IntOp.cmpi, Scalar.select]
  · intro l _ hl
    have : BitVec.ofNat 32 l.val ≠ BitVec.ofNat 32 h.val := by
      intro e
      have := congrArg BitVec.toNat e
      simp at this
      omega
    simp [IntOp.cmpi, Scalar.select, beq_false_of_ne this]
  · simp

theorem pexp_at (s : Tile) (k : FVec Ideal S1x1 .f32) (i c : Fin 128) :
    pexp s k (ix2 i c) = Ideal.exp (s (ix2 i c) - rowMax s k (ix2 i 0)) := by
  pointwise [pexp, spread]

theorem den_at (s : Tile) (k : FVec Ideal S1x1 .f32) (i : Fin 128) :
    den s k (ix2 i 0) = ∑ c, pexp s k (ix2 i c) + Ideal.exp (k (ix2 0 0) - rowMax s k (ix2 i 0)) := by
  pointwise [den, rowSum, sinkCol]

theorem prob_at (s : Tile) (k : FVec Ideal S1x1 .f32) (i c : Fin 128) :
    prob s k (ix2 i c) = Ideal.div (pexp s k (ix2 i c)) (den s k (ix2 i 0)) := by
  pointwise [prob, spread]

theorem dscore_at (s : Tile) (k : FVec Ideal S1x1 .f32) (dp : Tile) (i c : Fin 128) :
    dscore s k dp (ix2 i c) = (Ideal.div (dp (ix2 i c)) (den s k (ix2 i 0))
      + -∑ c, dp (ix2 i c) * Ideal.div 1 (den s k (ix2 i 0) * den s k (ix2 i 0)) * pexp s k (ix2 i c)) * pexp s k (ix2 i c) := by
  pointwise [dscore, spread, rowSum, invsq]
  rw [Fin.sum_univ_one, zero_sub]

theorem score_at (f : BitVec 1) (a b : Tile) (i c : Fin 128) :
    score f a b (ix2 i c) = if c.val ≤ i.val then a (ix2 i c) * eighth else if f = 1#1 then ⊥ else b (ix2 i c) * eighth := by
  pointwise [score, scale, own_at]
  rw [← neg_inf]
  by_cases hl : c.val ≤ i.val <;> by_cases hf : f = 1#1 <;> simp [Scalar.select, hl, hf] <;> rfl

theorem partPrev_at (f : BitVec 1) (x : Tile) (i c : Fin 128) :
    partPrev f x (ix2 i c) = (if f = 1#1 then 0 else if c.val ≤ i.val then 0 else x (ix2 i c)) * eighth := by
  pointwise [partPrev, scale, own_at, zt]
  by_cases hl : c.val ≤ i.val <;> by_cases hf : f = 1#1 <;> simp [Scalar.select, hl, hf] <;> rfl

theorem partCur_at (x : Tile) (i c : Fin 128) : partCur x (ix2 i c) = (if c.val ≤ i.val then x (ix2 i c) else 0) * eighth := by
  pointwise [partCur, scale, own_at, zt]
  by_cases hl : c.val ≤ i.val <;> simp [Scalar.select, hl]

theorem both_at (g : Fin 2) (x : Tile) (c l m : Fin 128) (h : m.val = g.val * 64 + l.val % 64) :
    both g x (ix2 c l) = x (ix2 c m) := by
  have hl := l.isLt
  fin_cases g
  · pointwise [both, left_at, rot_at x c l ⟨(l.val + 64) % 128, by omega⟩ rfl]
    by_cases hh : l.val < 64
    · rw [if_pos hh]
      exact congrArg (fun r => x (ix2 c r)) (Fin.ext (by simp at h; omega))
    · rw [if_neg hh]
      exact congrArg (fun r => x (ix2 c r)) (Fin.ext (by simp at h; show (l.val + 64) % 128 = m.val; omega))
  · pointwise [both, left_at, rot_at x c l ⟨(l.val + 64) % 128, by omega⟩ rfl]
    by_cases hh : l.val < 64
    · rw [if_pos hh]
      exact congrArg (fun r => x (ix2 c r)) (Fin.ext (by simp at h; show (l.val + 64) % 128 = m.val; omega))
    · rw [if_neg hh]
      exact congrArg (fun r => x (ix2 c r)) (Fin.ext (by simp at h; omega))

theorem split8_at (x : Fin 8 → Tile) (g : Fin 2) (h : Fin 8) (i l : Fin 128) :
    split8 x g (ix2 (row8 h i) l) = if l.val / 64 = h.val % 2 then x ⟨g.val * 4 + h.val / 2, by omega⟩ (ix2 i l) else 0 := by
  have e : split8 x g = heads fun h => if h.val % 2 = 0 then halfL (x ⟨g.val * 4 + h.val / 2, by omega⟩)
      else halfR (x ⟨g.val * 4 + h.val / 2, by omega⟩) := by
    fin_cases g <;> rfl
  rw [e, heads_at]
  by_cases hh : h.val % 2 = 0
  · rw [if_pos hh, halfL_at]
    by_cases hl : l.val < 64
    · rw [if_pos hl, if_pos (by omega)]
    · rw [if_neg hl, if_neg (by omega)]
  · rw [if_neg hh, halfR_at]
    by_cases hl : l.val < 64
    · rw [if_pos hl, if_neg (by omega)]
    · rw [if_neg hl, if_pos (by omega)]

/-- A sum over the lanes of which one half is none. -/
theorem sum_half (b : Nat) (hb : b < 2) (F : Fin 128 → EReal) (h : ∀ l, l.val / 64 ≠ b → F l = 0) :
    ∑ l, F l = ∑ d : Fin 64, F ⟨b * 64 + d.val, by omega⟩ := by
  symm
  refine Fintype.sum_of_injective (fun d : Fin 64 => (⟨b * 64 + d.val, by omega⟩ : Fin 128))
    (fun x y e => Fin.ext (by have := congrArg Fin.val e; simp at this; omega)) _ _ (fun l hl => h l fun e => hl ?_) (fun d => rfl)
  exact ⟨⟨l.val % 64, by omega⟩, Fin.ext (by show b * 64 + l.val % 64 = l.val; omega)⟩

end Cert.AttnBwdIdeal.Hand

end
-- ==== Proof.AttnKey.lean ====
module

public import proofs.«01_k».proof.Proof.AttnModel

/-! The keys that a block of queries reads, and the sums over them. -/

@[expose] public section

noncomputable section

namespace Cert.Attn

open Idealize.ShloMosaic
open scoped BigOperators

/-- Row `i` of block `b`. -/
def pos (b : Fin 32) (i : Fin 128) : Fin 4096 := ⟨b.val * 128 + i.val, by omega⟩
/-- The block before. -/
def prevb (n : Fin 32) : Fin 32 := ⟨n.val - 1, by omega⟩
/-- The key of column `c` of the scores of query `i`: of the query's own block up to the query, and of the block before
    past it. -/
def key (n : Fin 32) (i c : Fin 128) : Fin 4096 := if c.val ≤ i.val then pos n c else pos (prevb n) c

variable (n : Fin 32) (i c : Fin 128)

theorem key_val : (key n i c).val = if c.val ≤ i.val then n.val * 128 + c.val else (n.val - 1) * 128 + c.val := by
  unfold key
  split <;> rfl

theorem key_inj : Function.Injective (key n i) := by
  intro a b e
  have e := congrArg Fin.val e
  rw [key_val, key_val] at e
  have ha := a.isLt
  have hb := b.isLt
  apply Fin.ext
  split_ifs at e <;> omega

theorem key_keep (h : c.val ≤ i.val ∨ n.val ≠ 0) : keep (pos n i) (key n i c) := by
  unfold keep
  rw [key_val]
  show _ ≤ n.val * 128 + i.val ∧ n.val * 128 + i.val < _
  have hc := c.isLt
  split <;> omega

theorem key_not_keep (h : i.val < c.val) (h0 : n.val = 0) : ¬keep (pos n i) (key n i c) := by
  unfold keep
  rw [key_val, if_neg (by omega)]
  show ¬(_ ≤ n.val * 128 + i.val ∧ n.val * 128 + i.val < _)
  omega

theorem own_not_keep (h : i.val < c.val) : ¬keep (pos n i) (pos n c) := by
  show ¬(n.val * 128 + c.val ≤ n.val * 128 + i.val ∧ n.val * 128 + i.val < n.val * 128 + c.val + 128)
  omega

theorem prev_not_keep (h : c.val ≤ i.val) (h0 : n.val ≠ 0) : ¬keep (pos n i) (pos (prevb n) c) := by
  show ¬((n.val - 1) * 128 + c.val ≤ n.val * 128 + i.val ∧ n.val * 128 + i.val < (n.val - 1) * 128 + c.val + 128)
  omega

theorem key_range (s : Fin 4096) (h : keep (pos n i) s) : ∃ c, key n i c = s := by
  have h1 : s.val ≤ n.val * 128 + i.val := h.1
  have h2 : n.val * 128 + i.val < s.val + 128 := h.2
  have hi := i.isLt
  refine ⟨⟨s.val % 128, by omega⟩, Fin.ext ?_⟩
  rw [key_val]
  dsimp only
  by_cases hs : s.val / 128 = n.val
  · rw [if_pos (by omega)]; omega
  · rw [if_neg (by omega)]; omega

/-- A sum over the keys that a query reads. -/
theorem sum_key (F : Fin 4096 → EReal) (h : ∀ s, ¬keep (pos n i) s → F s = 0) : ∑ c, F (key n i c) = ∑ s, F s :=
  Fintype.sum_of_injective (key n i) (key_inj n i) _ _ (fun s hs => h s fun hk => hs (key_range n i s hk)) fun _ => rfl

/-- Its two blocks apart. -/
theorem sum_parts (F : Fin 4096 → EReal) (h : ∀ s, ¬keep (pos n i) s → F s = 0) :
    ∑ c, (if n.val = 0 then 0 else F (pos (prevb n) c)) + ∑ c, F (pos n c) = ∑ s, F s := by
  rw [← sum_key n i F h, ← Finset.sum_add_distrib]
  refine Finset.sum_congr rfl fun c _ => ?_
  by_cases hc : c.val ≤ i.val
  · unfold key
    rw [if_pos hc]
    by_cases h0 : n.val = 0
    · rw [if_pos h0, zero_add]
    · rw [if_neg h0, h _ (prev_not_keep n i c hc h0), zero_add]
  · have e : key n i c = pos (prevb n) c := if_neg hc
    rw [h _ (own_not_keep n i c (by omega)), add_zero]
    by_cases h0 : n.val = 0
    · rw [if_pos h0, h _ (key_not_keep n i c (by omega) h0)]
    · rw [if_neg h0, e]

/-- The queries that read a key are of its own block and of the next. -/
theorem sum_readers (F : Fin 4096 → EReal) (h : ∀ t, ¬keep t (pos n c) → F t = 0) :
    ∑ t, F t = ∑ i, F (pos n i) + (if hn : n.val + 1 < 32 then ∑ i, F (pos ⟨n.val + 1, hn⟩ i) else 0) := by
  rw [← Fin.sum_mul_add_congr (S := 32) (n := 128) (F := fun b i => F (pos b i)) (f := F) fun b i _ => rfl]
  have off (b : Fin 32) (hb : b ≠ n) (hb' : b.val ≠ n.val + 1) : ∑ i, F (pos b i) = 0 := by
    refine Finset.sum_eq_zero fun i _ => h _ fun hk => ?_
    have h1 : n.val * 128 + c.val ≤ b.val * 128 + i.val := hk.1
    have h2 : b.val * 128 + i.val < n.val * 128 + c.val + 128 := hk.2
    have hb2 : b.val ≠ n.val := fun e => hb (Fin.ext e)
    omega
  by_cases hn : n.val + 1 < 32
  · rw [dif_pos hn]
    refine Finset.sum_eq_add n ⟨n.val + 1, hn⟩ (fun e => ?_) (fun b _ hb => ?_) (by simp) (by simp)
    · have := congrArg Fin.val e; simp at this
    · exact off b hb.1 fun e => hb.2 (Fin.ext e)
  · rw [dif_neg hn, add_zero]
    exact Finset.sum_eq_single n (fun b _ hb => off b hb (by omega)) (by simp)

namespace Head
variable (H : Head) (t s : Fin 4096)

theorem score_off (h : ¬keep t s) : H.score t s = ⊥ := if_neg h

theorem pexp_off (h : ¬keep t s) : H.pexp t s = 0 := by
  unfold pexp
  rw [H.score_off t s h, EReal.bot_sub]
  rfl

theorem dscore_off (h : ¬keep t s) : H.dscore t s = 0 := by
  unfold dscore
  rw [if_neg h, zero_mul]

theorem prob_off (hd : H.den t ≠ 0) (h : ¬keep t s) : H.prob t s = 0 := by
  unfold prob
  rw [H.pexp_off t s h, Ideal.zero_div hd]

/-- The greatest score is the greatest of the keys that the query reads. -/
theorem top_key : Finset.fold max ⊥ (fun c => H.score (pos n i) (key n i c)) Finset.univ = H.top (pos n i) := by
  unfold top
  refine le_antisymm ?_ ?_
  · rw [Finset.fold_max_le]
    exact ⟨bot_le, fun c _ => (Finset.le_fold_max _).2 (.inr ⟨key n i c, Finset.mem_univ _, le_rfl⟩)⟩
  · rw [Finset.fold_max_le]
    refine ⟨bot_le, fun s _ => ?_⟩
    by_cases hk : keep (pos n i) s
    · obtain ⟨c, rfl⟩ := key_range n i s hk
      exact (Finset.le_fold_max _).2 (.inr ⟨c, Finset.mem_univ _, le_rfl⟩)
    · rw [H.score_off _ _ hk]
      exact bot_le
end Head

end Cert.Attn

end
-- ==== Proof.AttnStep.lean ====
module

public import proofs.«01_k».proof.Proof.AttnAt
public import proofs.«01_k».proof.Proof.AttnKey

/-! One step of the attention's gradient in terms of the heads of the arguments. -/

@[expose] public section

set_option maxRecDepth 16384

noncomputable section

namespace Cert.AttnBwdIdeal.Hand

open Cert.AttnBwdIdeal Cert.AttnBwdIdeal.Gen Cert.Attn Idealize.ShloMosaic Idealize.ShloMosaic.TcCoe
open scoped BigOperators

/-- What a step reads is block `n` of the heads' entries, and the block before. -/
structure Fits (R : Reads) (H : Fin 2 → Fin 8 → Head) (n : Fin 32) : Prop where
  q : ∀ g (h : Fin 8) i (d : Fin 64), R.q ⟨g.val * 4 + h.val / 2, by omega⟩ (ix2 i ⟨h.val % 2 * 64 + d.val, by omega⟩) = (H g h).q (pos n i) d
  d : ∀ g (h : Fin 8) i (d : Fin 64), R.d ⟨g.val * 4 + h.val / 2, by omega⟩ (ix2 i ⟨h.val % 2 * 64 + d.val, by omega⟩) = (H g h).o (pos n i) d
  kc : ∀ g h c (d : Fin 64), R.kc (ix2 c ⟨g.val * 64 + d.val, by omega⟩) = (H g h).k (pos n c) d
  kp : ∀ g h c (d : Fin 64), R.kp (ix2 c ⟨g.val * 64 + d.val, by omega⟩) = (H g h).k (pos (prevb n) c) d
  vc : ∀ g h c (d : Fin 64), R.vc (ix2 c ⟨g.val * 64 + d.val, by omega⟩) = (H g h).v (pos n c) d
  vp : ∀ g h c (d : Fin 64), R.vp (ix2 c ⟨g.val * 64 + d.val, by omega⟩) = (H g h).v (pos (prevb n) c) d
  sink : ∀ g (h : Fin 8), R.sink (ix2 0 ⟨8 * g.val + h.val, by omega⟩) = (H g h).sink
  first : R.first = if n.val = 0 then 1#1 else 0#1

variable {R : Reads} {H : Fin 2 → Fin 8 → Head} {n : Fin 32} (g : Fin 2) (h : Fin 8) (i c l : Fin 128)

/-- A head's row of the four column blocks, times a group's row. -/
theorem dot_at {x : Fin 8 → Tile} {k : Tile} {a b : Fin 64 → EReal}
    (ha : ∀ d : Fin 64, x ⟨g.val * 4 + h.val / 2, by omega⟩ (ix2 i ⟨h.val % 2 * 64 + d.val, by omega⟩) = a d)
    (hb : ∀ d : Fin 64, k (ix2 c ⟨g.val * 64 + d.val, by omega⟩) = b d) :
    ∑ l : Fin 128, split8 x g (ix2 (row8 h i) l) * both g k (ix2 c l) = ∑ d, a d * b d := by
  rw [sum_half (h.val % 2) (by omega)]
  · refine Finset.sum_congr rfl fun d _ => ?_
    have hd := d.isLt
    rw [split8_at, if_pos (by dsimp only; omega), ha, ← hb,
      both_at g k c _ ⟨g.val * 64 + d.val, by omega⟩ (by dsimp only; omega)]
  · intro l hl
    rw [split8_at, if_neg hl, zero_mul]

section
variable (F : Fits R H n)
include F

theorem sc_at : R.sc g h (ix2 i c) = (H g h).score (pos n i) (key n i c) := by
  have e1 : rows (nt (lo8 (split8 R.q g)) (both g R.kc)) h (ix2 i c) = ∑ d, (H g h).k (pos n c) d * (H g h).q (pos n i) d := by
    rw [rows_at, nt_at]
    refine (dot_at g h i c (F.q g h i) (F.kc g h c)).trans ?_
    exact Finset.sum_congr rfl fun d _ => mul_comm _ _
  have e2 : rows (nt (lo8 (split8 R.q g)) (both g R.kp)) h (ix2 i c) = ∑ d, (H g h).k (pos (prevb n) c) d * (H g h).q (pos n i) d := by
    rw [rows_at, nt_at]
    refine (dot_at g h i c (F.q g h i) (F.kp g h c)).trans ?_
    exact Finset.sum_congr rfl fun d _ => mul_comm _ _
  unfold Reads.sc
  rw [score_at, e1, e2, F.first]
  by_cases hc : c.val ≤ i.val
  · unfold Head.score
    rw [if_pos hc, if_pos (key_keep n i c (.inl hc)), show key n i c = pos n c from if_pos hc]
  · rw [if_neg hc]
    by_cases h0 : n.val = 0
    · rw [if_pos h0, if_pos rfl, Head.score_off _ _ _ (key_not_keep n i c (by omega) h0)]
    · unfold Head.score
      rw [if_neg h0, if_neg (by decide), if_pos (key_keep n i c (.inr h0)), show key n i c = pos (prevb n) c from if_neg hc]

theorem sk_at : R.sk g h (ix2 0 0) = (H g h).sink := by
  unfold Reads.sk
  rw [sinkOf_at R.sink ⟨8 * g.val + h.val, by omega⟩]
  exact F.sink g h

theorem shift_at : rowMax (R.sc g h) (R.sk g h) (ix2 i 0) = (H g h).shift (pos n i) := by
  rw [rowMax_at, sk_at g h F]
  simp only [sc_at g h i _ F]
  rw [Head.top_key]
  rfl

theorem step_pexp : pexp (R.sc g h) (R.sk g h) (ix2 i c) = (H g h).pexp (pos n i) (key n i c) := by
  rw [Hand.pexp_at, sc_at g h i c F, shift_at g h i F]
  rfl

theorem step_den : den (R.sc g h) (R.sk g h) (ix2 i 0) = (H g h).den (pos n i) := by
  rw [Hand.den_at, sk_at g h F, shift_at g h i F]
  simp only [step_pexp g h i _ F]
  rw [sum_key n i _ fun s hs => (H g h).pexp_off _ s hs]
  rfl

theorem step_prob : R.p g h (ix2 i c) = (H g h).prob (pos n i) (key n i c) := by
  unfold Reads.p
  rw [Hand.prob_at, step_pexp g h i c F, step_den g h i F]
  rfl

theorem step_dprob : R.dp8 g (ix2 (row8 h i) c) = (H g h).dprob (pos n i) (key n i c) := by
  have e1 : nt (split8 R.d g) (both g R.vc) (ix2 (row8 h i) c) = (H g h).dprob (pos n i) (pos n c) := by
    rw [nt_at]
    exact dot_at g h i c (F.d g h i) (F.vc g h c)
  have e2 : nt (split8 R.d g) (both g R.vp) (ix2 (row8 h i) c) = (H g h).dprob (pos n i) (pos (prevb n) c) := by
    rw [nt_at]
    exact dot_at g h i c (F.d g h i) (F.vp g h c)
  pointwise [Reads.dp8, zt8, thru8, lo8, own8_at, e1, e2]
  unfold key
  by_cases hc : c.val ≤ i.val <;> simp [Scalar.select, hc]

theorem step_dshifted : R.ds g h (ix2 i c) = (H g h).dshifted (pos n i) (key n i c) := by
  unfold Reads.ds
  rw [Hand.dscore_at, step_den g h i F]
  simp only [rows_at, step_dprob g h i _ F, step_pexp g h i _ F]
  rw [sum_key n i (fun s => (H g h).dprob (pos n i) s * Ideal.div 1 ((H g h).den (pos n i) * (H g h).den (pos n i)) *
    (H g h).pexp (pos n i) s) fun s hs => by rw [(H g h).pexp_off _ s hs, mul_zero]]
  rfl

theorem cur_at : R.cur8 g (ix2 (row8 h i) c) = (H g h).dscore (pos n i) (pos n c) := by
  unfold Reads.cur8
  rw [heads_at, partCur_at, step_dshifted g h i c F]
  by_cases hc : c.val ≤ i.val
  · unfold Head.dscore
    have e : key n i c = pos n c := if_pos hc
    rw [if_pos hc, e, if_pos (e ▸ key_keep n i c (.inl hc))]
  · rw [if_neg hc, zero_mul, Head.dscore_off _ _ _ (own_not_keep n i c (by omega))]

theorem prev_at : R.prev8 g (ix2 (row8 h i) c)
    = if n.val = 0 then 0 else (H g h).dscore (pos n i) (pos (prevb n) c) := by
  unfold Reads.prev8
  rw [heads_at, partPrev_at, step_dshifted g h i c F, F.first]
  by_cases h0 : n.val = 0
  · rw [if_pos h0, if_pos h0, if_pos rfl, zero_mul]
  rw [if_neg h0, if_neg h0, if_neg (by decide)]
  by_cases hc : c.val ≤ i.val
  · rw [if_pos hc, zero_mul, Head.dscore_off _ _ _ (prev_not_keep n i c hc h0)]
  · unfold Head.dscore
    have e : key n i c = pos (prevb n) c := if_neg hc
    rw [if_neg hc, e, if_pos (e ▸ key_keep n i c (.inr h0))]

theorem curP_at (hd : (H g h).den (pos n i) ≠ 0) :
    (select k0_pay7 (heads (R.p g)) zt8 : Tile8) (ix2 (row8 h i) c) = (H g h).prob (pos n i) (pos n c) := by
  pointwise [zt8, own8_at, heads_at, step_prob g h i c F]
  by_cases hc : c.val ≤ i.val
  · simp [Scalar.select, hc, key]
  · rw [Head.prob_off _ _ _ hd (own_not_keep n i c (by omega))]
    simp [Scalar.select, hc]

theorem prevP_at (hd : (H g h).den (pos n i) ≠ 0) :
    (select k0_pay7 zt8 (heads (R.p g)) : Tile8) (ix2 (row8 h i) c)
      = if n.val = 0 then 0 else (H g h).prob (pos n i) (pos (prevb n) c) := by
  pointwise [zt8, own8_at, heads_at, step_prob g h i c F]
  by_cases hc : c.val ≤ i.val
  · by_cases h0 : n.val = 0
    · simp [Scalar.select, hc, h0]
    · rw [Head.prob_off _ _ _ hd (prev_not_keep n i c hc h0)]
      simp [Scalar.select, hc]
  · by_cases h0 : n.val = 0
    · rw [Head.prob_off _ _ _ hd (key_not_keep n i c (by omega) h0)]
      simp [Scalar.select, h0]
    · simp [Scalar.select, hc, h0, key]

/-- A head's gradient of the queries, twice. -/
theorem dq8_at (d : Fin 64) (hl : l.val % 64 = d.val) : R.dq8 g (ix2 (row8 h i) l) = (H g h).gradQ (pos n i) d := by
  have e : R.dq8 g (ix2 (row8 h i) l) = nn (R.prev8 g) (both g R.kp) (ix2 (row8 h i) l) + nn (R.cur8 g) (both g R.kc) (ix2 (row8 h i) l) := by
    pointwise [Reads.dq8, thru8, lo8]
  rw [e, nn_at, nn_at]
  unfold Head.gradQ
  rw [← sum_parts n i (fun s => (H g h).dscore (pos n i) s * (H g h).k s d) fun s hs => by
    rw [Head.dscore_off _ _ _ hs, zero_mul]]
  refine congrArg₂ (· + ·) (Finset.sum_congr rfl fun c _ => ?_) (Finset.sum_congr rfl fun c _ => ?_)
  · rw [prev_at g h i c F, both_at g R.kp c l ⟨g.val * 64 + d.val, by omega⟩ (by dsimp only; omega), F.kp g h]
    split
    · rw [zero_mul]
    · rfl
  · rw [cur_at g h i c F, both_at g R.kc c l ⟨g.val * 64 + d.val, by omega⟩ (by dsimp only; omega), F.kc g h]

/-- A column block of the gradient of the queries. -/
theorem dq_at (a b : Fin 8) (d : Fin 64) (hl : l.val % 64 = d.val) :
    R.dq g a b (ix2 i l) = (H g (if l.val < 64 then a else b)).gradQ (pos n i) d := by
  have e : R.dq g a b (ix2 i l) = halfR (rows (R.dq8 g) b) (ix2 i l) + halfL (rows (R.dq8 g) a) (ix2 i l) := by
    pointwise [Reads.dq]
  rw [e, halfR_at, halfL_at, rows_at, rows_at, dq8_at g a i l F d hl, dq8_at g b i l F d hl]
  by_cases hh : l.val < 64
  · rw [if_pos hh, if_pos hh, if_pos hh, zero_add]
  · rw [if_neg hh, if_neg hh, if_neg hh, add_zero]
end

/-- A sum over the rows of eight heads. -/
theorem sum_rows (f : Fin 1024 → EReal) : ∑ r, f r = ∑ h : Fin 8, ∑ i : Fin 128, f (row8 h i) :=
  (Fin.sum_mul_add_congr (S := 8) (n := 128) (F := fun h i => f (row8 h i)) (f := f) fun h i _ => rfl).symm

theorem fold2_at (x0 x1 : Tile) (d : Fin 64) :
    Reads.fold2 x0 x1 (ix2 c ⟨g.val * 64 + d.val, by omega⟩)
      = (match g with | 0 => x0 | 1 => x1) (ix2 c ⟨0 * 64 + d.val, by omega⟩) + (match g with | 0 => x0 | 1 => x1) (ix2 c ⟨1 * 64 + d.val, by omega⟩) := by
  have hd := d.isLt
  have e (l m : Fin 128) (h : m.val = (l.val + 64) % 128) : Reads.fold2 x0 x1 (ix2 c l)
      = (halfR x1 (ix2 c l) + halfL x0 (ix2 c l)) + (halfL x1 (ix2 c m) + halfR x0 (ix2 c m)) := by
    unfold Reads.fold2
    pointwise
    rw [rot_at _ c l m h]
    pointwise
  fin_cases g
  · rw [e _ ⟨64 + d.val, by omega⟩ (by dsimp only; omega)]
    simp only [halfL_at, halfR_at]
    rw [if_pos (by first | omega | (dsimp; omega) | (simp; omega)), if_pos (by first | omega | (dsimp; omega) | (simp; omega)), if_neg (by first | omega | (dsimp; omega) | (simp; omega)), if_neg (by first | omega | (dsimp; omega) | (simp; omega)), zero_add, zero_add]
  · rw [e _ ⟨d.val, by omega⟩ (by dsimp only; omega)]
    simp only [halfL_at, halfR_at]
    rw [if_neg (by first | omega | (dsimp; omega) | (simp; omega)), if_neg (by first | omega | (dsimp; omega) | (simp; omega)), if_pos (by first | omega | (dsimp; omega) | (simp; omega)), if_pos (by first | omega | (dsimp; omega) | (simp; omega)), add_zero, add_zero, add_comm]
    exact congrArg₂ (· + ·) (congrArg (fun r => x1 (ix2 c r)) (Fin.ext (by dsimp only <;> omega)))
      (congrArg (fun r => x1 (ix2 c r)) (Fin.ext (by dsimp only <;> omega)))

/-- The eight heads' rows, of both halves of the lanes. -/
theorem sum_heads {x : Fin 8 → Tile} {y : Fin 8 → Fin 128 → EReal} {f : Fin 8 → Fin 128 → EReal} (d : Fin 64) (w : Fin 1024 → EReal)
    (hx : ∀ h i, x ⟨g.val * 4 + h.val / 2, by omega⟩ (ix2 i ⟨h.val % 2 * 64 + d.val, by omega⟩) = y h i) (hw : ∀ h i, w (row8 h i) = f h i) :
    ∑ r, w r * split8 x g (ix2 r ⟨0 * 64 + d.val, by omega⟩) + ∑ r, w r * split8 x g (ix2 r ⟨1 * 64 + d.val, by omega⟩)
      = ∑ h, ∑ i, f h i * y h i := by
  rw [sum_rows, sum_rows, ← Finset.sum_add_distrib]
  refine Finset.sum_congr rfl fun h _ => ?_
  rw [← Finset.sum_add_distrib]
  refine Finset.sum_congr rfl fun i _ => ?_
  have hd := d.isLt
  rw [split8_at, split8_at, hw, ← hx]
  rcases Nat.mod_two_eq_zero_or_one h.val with e | e
  · rw [if_pos (by dsimp only; omega), if_neg (by dsimp only; omega), mul_zero, add_zero]
    exact congrArg (fun r => f h i * x _ (ix2 i r)) (Fin.ext (by dsimp only; omega))
  · rw [if_neg (by dsimp only; omega), if_pos (by dsimp only; omega), mul_zero, zero_add]
    exact congrArg (fun r => f h i * x _ (ix2 i r)) (Fin.ext (by dsimp only; omega))

section
variable (F : Fits R H n)
include F

theorem dkOf_at {f : Fin 2 → Tile8} {w : Fin 8 → Fin 128 → EReal} (d : Fin 64) (hw : ∀ h i, f g (ix2 (row8 h i) c) = w h i) :
    R.dkOf f (ix2 c ⟨g.val * 64 + d.val, by omega⟩) = ∑ h, ∑ i, w h i * (H g h).q (pos n i) d := by
  unfold Reads.dkOf
  rw [fold2_at]
  rw [← sum_heads g d (fun r => f g (ix2 r c)) (fun h i => F.q g h i d) hw]
  fin_cases g <;> pointwise [thru, lo, tn_at]

theorem dvOf_at {f : Fin 2 → Tile8} {w : Fin 8 → Fin 128 → EReal} (d : Fin 64) (hw : ∀ h i, f g (ix2 (row8 h i) c) = w h i) :
    R.dvOf f (ix2 c ⟨g.val * 64 + d.val, by omega⟩) = ∑ h, ∑ i, w h i * (H g h).o (pos n i) d := by
  unfold Reads.dvOf
  rw [fold2_at]
  rw [← sum_heads g d (fun r => f g (ix2 r c)) (fun h i => F.d g h i d) hw]
  fin_cases g <;> pointwise [thru, lo, tn_at] <;> simp only [mul_comm]
end

end Cert.AttnBwdIdeal.Hand

end
-- ==== Proof.AttnFits.lean ====
/- What a step of the attention's backward pass reads: its block of the arguments' heads and the block before. -/
module

public import proofs.«01_k».proof.Defs
public import proofs.«01_k».proof.Proof.AttnOut
public import proofs.«01_k».proof.Proof.AttnStep
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Hand

open Cert.AttnBwdIdeal Cert.AttnBwdIdeal.Gen Cert.Attn

variable (m : (ℓ : Loc nD τ sig) → Buf (Elt Ideal) ℓ)

/-- Every window's block index at every grid point. -/
theorem idx : ∀ t : Fin cfg0.N, win0_0.index t = ![31 - t.val, 0]
    ∧ win0_1.index t = ![31 - t.val - 1, 8]
    ∧ win0_2.index t = ![31 - t.val, 8]
    ∧ win0_3.index t = ![31 - t.val - 1, 9]
    ∧ win0_4.index t = ![31 - t.val, 9]
    ∧ win0_5.index t = ![0, 0]
    ∧ win0_6.index t = ![31 - t.val, 0]
    ∧ win0_7.index t = ![31 - t.val, 0] :=
  (by decide +kernel : ∀ t : Fin grid0.N, _)

/-- The block a step handles. -/
def blkOf (t : Fin cfg0.N) : Fin 32 := ⟨31 - t.val, by omega⟩

/-- Only the last step has no block before. -/
theorem first_at : ∀ t : Fin cfg0.N, Scalar.cmpi CmpIPredicate.eq (Scalar.subi (31#32) (BitVec.ofNat 32 ↑(grid0.coords t 0))) 0#32
    = if (blkOf t).val = 0 then 1#1 else 0#1 :=
  (by decide +kernel : ∀ t : Fin grid0.N, _)

/-- The queries' rows. -/
theorem q_read (c : Dev nD) (t : Fin cfg0.N) (A : FVec Ideal S4096x1280 .f32) (hA : m ((c : Thread nD τ).loc main_arg0) = A)
    (p : Fin 8) (i l : Fin 128) :
    (reads m c t).q p (ix2 i l) = A (ix2 (pos (blkOf t) i) ⟨p.val * 128 + l.val, by omega⟩) := by
  subst hA
  dsimp only [reads]
  rw [View.ld_apply]
  unfold X0_0 Pipeline.Window.fill
  rw [dif_pos (moved0_0 t _)]
  blk_simp [iblk, V_main_arg0, idx t]
  blk_ext [idx t, pos, blkOf]
  · simp
  · simp [Nat.mul_comm]

theorem kp_read (c : Dev nD) (t : Fin cfg0.N) (A : FVec Ideal S4096x1280 .f32) (hA : m ((c : Thread nD τ).loc main_arg0) = A)
    (i l : Fin 128) :
    (reads m c t).kp (ix2 i l) = A (ix2 (pos (prevb (blkOf t)) i) ⟨1024 + l.val, by omega⟩) := by
  subst hA
  dsimp only [reads]
  blk_simp [iblk, V_main_arg0, idx t]
  blk_ext [idx t, pos, blkOf, prevb]

theorem kc_read (c : Dev nD) (t : Fin cfg0.N) (A : FVec Ideal S4096x1280 .f32) (hA : m ((c : Thread nD τ).loc main_arg0) = A)
    (i l : Fin 128) :
    (reads m c t).kc (ix2 i l) = A (ix2 (pos (blkOf t) i) ⟨1024 + l.val, by omega⟩) := by
  subst hA
  dsimp only [reads]
  blk_simp [iblk, V_main_arg0, idx t]
  blk_ext [idx t, pos, blkOf]

theorem vp_read (c : Dev nD) (t : Fin cfg0.N) (A : FVec Ideal S4096x1280 .f32) (hA : m ((c : Thread nD τ).loc main_arg0) = A)
    (i l : Fin 128) :
    (reads m c t).vp (ix2 i l) = A (ix2 (pos (prevb (blkOf t)) i) ⟨1152 + l.val, by omega⟩) := by
  subst hA
  dsimp only [reads]
  blk_simp [iblk, V_main_arg0, idx t]
  blk_ext [idx t, pos, blkOf, prevb]

theorem vc_read (c : Dev nD) (t : Fin cfg0.N) (A : FVec Ideal S4096x1280 .f32) (hA : m ((c : Thread nD τ).loc main_arg0) = A)
    (i l : Fin 128) :
    (reads m c t).vc (ix2 i l) = A (ix2 (pos (blkOf t) i) ⟨1152 + l.val, by omega⟩) := by
  subst hA
  dsimp only [reads]
  blk_simp [iblk, V_main_arg0, idx t]
  blk_ext [idx t, pos, blkOf]

theorem d_read (c : Dev nD) (t : Fin cfg0.N) (C : FVec Ideal S4096x1024 .f32) (hC : m ((c : Thread nD τ).loc main_arg2) = C)
    (p : Fin 8) (i l : Fin 128) :
    (reads m c t).d p (ix2 i l) = C (ix2 (pos (blkOf t) i) ⟨p.val * 128 + l.val, by omega⟩) := by
  subst hC
  dsimp only [reads]
  generalize hX : iblk m c 6 t = X
  pointwise
  subst hX
  blk_simp [iblk, idx t]
  entry_read
  pointwise
  blk_ext [idx t, pos, blkOf]

/-- The sinks as the call receives them, beside lanes of zeros. -/
theorem sink_entry (c : Dev nD) : V m c main_v0
    = pad S1x128 ![0, 0] ![0, 112] ![0, 0] (m ((c : Thread nD τ).loc main_arg1) : FVec Ideal S1x16 .f32)
      (sitofp .f32 (constantI S_ 32 0#32) : FVec Ideal S_ .f32) pads_S1x16_S1x128_000_01120 h_S_ := by
  rfl

theorem sink_read (c : Dev nD) (t : Fin cfg0.N) (B : FVec Ideal S1x16 .f32) (hB : m ((c : Thread nD τ).loc main_arg1) = B)
    (l : Fin 16) :
    (reads m c t).sink (ix2 0 ⟨l.val, by omega⟩) = B (ix2 0 l) := by
  subst hB
  dsimp only [reads]
  generalize hX : iblk m c 5 t = X
  pointwise [k0_pay4]
  subst hX
  blk_simp [iblk, idx t]
  rw [sink_entry]
  pointwise
  rw [dif_pos (by
    blk_simp [idx t]
    show ∀ a : Fin 2, _
    refine Fin.forall_fin_two.2 ⟨⟨?_, ?_, ?_⟩, ?_, ?_, ?_⟩ <;> simp <;> first | exact l.isLt | omega)]
  blk_ext [idx t]

variable (A : FVec Ideal S4096x1280 .f32) (B : FVec Ideal S1x16 .f32) (C : FVec Ideal S4096x1024 .f32)

/-- What a step reads is its block of the heads. -/
theorem fits (c : Dev nD) (hA : m ((c : Thread nD τ).loc main_arg0) = A) (hB : m ((c : Thread nD τ).loc main_arg1) = B)
    (hC : m ((c : Thread nD τ).loc main_arg2) = C) (t : Fin cfg0.N) : Fits (reads m c t) (head A B C) (blkOf t) where
  q g h i d := (q_read m c t A hA _ _ _).trans (congrArg (fun x => A (ix2 _ x)) (Fin.ext (by dsimp only; omega)))
  d g h i d := (d_read m c t C hC _ _ _).trans (congrArg (fun x => C (ix2 _ x)) (Fin.ext (by dsimp only; omega)))
  kc g h i d := kc_read m c t A hA _ _
  kp g h i d := kp_read m c t A hA _ _
  vc g h i d := vc_read m c t A hA _ _
  vp g h i d := vp_read m c t A hA _ _
  sink g h := (sink_read m c t B hB ⟨8 * g.val + h.val, by omega⟩).trans
    (congrArg (fun x => B (ix2 0 x)) (Fin.ext (by dsimp only; omega)))
  first := first_at t

end Cert.AttnBwdIdeal.Hand

end
-- ==== Proof.AttnReal.lean ====
module

public import proofs.«01_k».proof.Proof.AttnKey

/-! Of finite arguments the denominator is no zero, the shift's gradient is nothing, and some score is the greatest. -/

@[expose] public section

noncomputable section

namespace Cert.Attn

open Idealize.ShloMosaic
open scoped BigOperators

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

namespace Head

/-- The head's entries are numbers. -/
structure Finite (H : Head) : Prop where
  q : ∀ t d, ∃ r : ℝ, H.q t d = r
  k : ∀ t d, ∃ r : ℝ, H.k t d = r
  v : ∀ t d, ∃ r : ℝ, H.v t d = r
  o : ∀ t d, ∃ r : ℝ, H.o t d = r
  sink : ∃ r : ℝ, H.sink = r

variable {H : Head} (hH : H.Finite) (t : Fin 4096)
include hH

theorem score_real : ∃ σ : Fin 4096 → ℝ, ∀ s, H.score t s = if keep t s then (σ s : EReal) else ⊥ := by
  choose q hq using hH.q
  choose k hk using hH.k
  refine ⟨fun s => (∑ d, k s d * q t d) * (1 / 8), fun s => ?_⟩
  unfold score
  simp only [hq, hk, eighth_eq, EReal.coe_mul, coe_sum]

theorem top_real : ∃ s, H.top t = H.score t s ∧ keep t s := by
  obtain ⟨σ, hσ⟩ := H.score_real hH t
  obtain ⟨s, -, hs⟩ := Finset.exists_mem_eq_sup Finset.univ ⟨t, Finset.mem_univ t⟩ (H.score t)
  refine ⟨s, hs, ?_⟩
  by_contra hk
  have h1 : H.score t t ≤ Finset.univ.sup (H.score t) := Finset.le_sup (Finset.mem_univ t)
  rw [hs, hσ s, if_neg hk, hσ t, if_pos ⟨le_rfl, by omega⟩] at h1
  exact absurd (le_bot_iff.1 h1) (EReal.coe_ne_bot _)

theorem count_ne : H.count t ≠ 0 := by
  obtain ⟨s, hs, -⟩ := H.top_real hH t
  have h1 : (if H.score t s = H.top t then (1 : EReal) else 0) ≤ H.count t :=
    Finset.single_le_sum (f := fun s => if H.score t s = H.top t then (1 : EReal) else 0)
      (fun s _ => by split <;> simp) (Finset.mem_univ s)
  rw [if_pos hs.symm] at h1
  exact fun e => absurd (e ▸ h1) (by simp)

/-- The exponentials and the sink's, in numbers. -/
theorem pexp_real : ∃ (a : Fin 4096 → ℝ) (e : ℝ), (∀ s, H.pexp t s = a s) ∧ H.esink t = e ∧ (∀ s, 0 ≤ a s) ∧ 0 < e := by
  obtain ⟨σ, hσ⟩ := H.score_real hH t
  obtain ⟨s, hs, hk⟩ := H.top_real hH t
  obtain ⟨z, hz⟩ := hH.sink
  have hm : H.shift t = ((max (σ s) z : ℝ) : EReal) := by
    unfold shift
    rw [hs, hσ s, if_pos hk, hz]
    exact (EReal.coe_strictMono.monotone.map_max).symm
  refine ⟨fun s' => if keep t s' then Real.exp (σ s' - max (σ s) z) else 0, Real.exp (z - max (σ s) z), fun s' => ?_, ?_,
    fun s' => ?_, Real.exp_pos _⟩
  · by_cases h : keep t s'
    · unfold pexp
      dsimp only
      rw [hσ s', if_pos h, if_pos h, hm, ← EReal.coe_sub]
      rfl
    · dsimp only
      rw [H.pexp_off t s' h, if_neg h]
      rfl
  · unfold esink
    rw [hz, hm, ← EReal.coe_sub]
    rfl
  · dsimp only
    split
    · exact (Real.exp_pos _).le
    · exact le_rfl

theorem den_ne : H.den t ≠ 0 := by
  obtain ⟨a, e, ha, he, ha0, he0⟩ := H.pexp_real hH t
  unfold den
  simp only [ha, he, ← coe_sum, ← EReal.coe_add]
  have := Finset.sum_nonneg fun s (_ : s ∈ Finset.univ) => ha0 s
  exact_mod_cast (by linarith : (∑ s, a s) + e ≠ 0)

theorem dshift_zero : H.dshift t = 0 := by
  obtain ⟨a, e, ha, he, ha0, he0⟩ := H.pexp_real hH t
  choose v hv using hH.v
  choose o ho using hH.o
  have hs := Finset.sum_nonneg fun s (_ : s ∈ Finset.univ) => ha0 s
  obtain ⟨D, hD⟩ : ∃ D, D = (∑ s, a s) + e := ⟨_, rfl⟩
  have hD0 : D ≠ 0 := by rw [hD]; linarith
  have hden : H.den t = D := by
    unfold den
    rw [hD]
    simp only [ha, he, coe_sum, EReal.coe_add]
  obtain ⟨b, hb⟩ : ∃ b : Fin 4096 → ℝ, ∀ s, H.dprob t s = b s :=
    ⟨fun s => ∑ d, o t d * v s d, fun s => by unfold dprob; simp only [ho, hv, coe_sum, EReal.coe_mul]⟩
  obtain ⟨δ, hδ⟩ : ∃ δ, δ = -∑ s, b s * (1 / (D * D)) * a s := ⟨_, rfl⟩
  have hdden : H.dden t = δ := by
    unfold dden
    rw [hδ, hden, ← EReal.coe_mul, Ideal.div_coe (mul_ne_zero hD0 hD0), one_mul]
    simp only [ha, hb, coe_sum, EReal.coe_mul, EReal.coe_neg]
  have hsh (s : Fin 4096) : H.dshifted t s = ((b s * (1 / D) + δ) * a s : ℝ) := by
    unfold dshifted
    rw [ha, hb, hden, hdden, Ideal.div_coe hD0]
    simp only [EReal.coe_mul, EReal.coe_add]
  unfold dshift
  simp only [hdden, he, hsh, ← EReal.coe_mul, ← EReal.coe_neg, ← coe_sum, ← EReal.coe_add]
  have key : -(δ * e) + ∑ s, -((b s * (1 / D) + δ) * a s) = 0 := by
    have h1 : ∑ s, -((b s * (1 / D) + δ) * a s) = -((∑ s, b s * a s) * (1 / D)) - δ * ∑ s, a s := by
      rw [Finset.sum_mul, Finset.mul_sum, ← Finset.sum_neg_distrib, ← Finset.sum_sub_distrib]
      exact Finset.sum_congr rfl fun s _ => by ring
    have h2 : δ = -((∑ s, b s * a s) * (1 / (D * D))) := by
      rw [hδ, Finset.sum_mul]
      exact congrArg Neg.neg (Finset.sum_congr rfl fun s _ => by ring)
    have h3 : ∑ s, a s = D - e := by rw [hD]; ring
    rw [h1, h2, h3]
    field_simp
    ring
  rw [key]
  rfl

end Head

end Cert.Attn

end
-- ==== Proof.AttnRef.lean ====
module

public import proofs.«01_k».proof.Defs
public import proofs.«01_k».proof.Proof.Gen.AttnBwdRefIdeal.Run
public import proofs.«01_k».proof.Proof.AttnModel
public import Idealize.ShloMosaic.Lib.Pipeline.ValueKit

@[expose] public section

set_option maxRecDepth 16384

noncomputable section

namespace Cert.AttnBwdRefIdeal.Hand

open Cert.AttnBwdRefIdeal Idealize.ShloMosaic Idealize.ShloMosaic.TcCoe Idealize.SL.Sem Idealize.ShloMosaic.StableHlo
open Cert.AttnBwdRefIdeal.Value Cert.Attn
open scoped BigOperators

variable (V : Valuation τ sig (Elt Ideal))

variable (A : FVec Ideal S4096x1280 .f32) (B : FVec Ideal S1x16 .f32) (C : FVec Ideal S4096x1024 .f32)
  (hA : V (Proc.devRef .tc main_arg0) = A) (hB : V (Proc.devRef .tc main_arg1) = B)
  (hC : V (Proc.devRef .tc main_arg2) = C)
include hA hB hC
variable (g : Fin 2) (h : Fin 8) (t s : Fin 4096) (d : Fin 64)

theorem q_at : res_main_v3 V (ix4 t g h d) = (head A B C g h).q t d := by
  subst hA hB hC
  pointwise [res_main_v3, head]

theorem k_at : res_main_v4 V (ix3 s g d) = (head A B C g h).k s d := by
  subst hA hB hC
  pointwise [res_main_v4, head]

theorem v_at : res_main_v5 V (ix3 s g d) = (head A B C g h).v s d := by
  subst hA hB hC
  pointwise [res_main_v5, head]

theorem o_at : res_main_v62 V (ix4 g d h t) = (head A B C g h).o t d := by
  subst hA hB hC
  pointwise [res_main_v62, head]

theorem sink_at : res_main_v25 V (ix4 g h 0 0) = (head A B C g h).sink := by
  subst hA hB hC
  pointwise [res_main_v25, head]

omit hA hB hC in
theorem keep_at : res_main_v23_1 V (ix4 g h t s) = if keep t s then 1#1 else 0#1 := by
  pointwise [res_main_v23_1, res_main_v13, res_main_v11]
  have e (n : Nat) (hn : n < 2 ^ 31) : (BitVec.ofNat 32 n).toInt = n := by
    rw [BitVec.toInt_eq_toNat_of_lt] <;> simp <;> omega
  have hs := e s.val (by omega)
  have ht := e t.val (by omega)
  have hs' : (BitVec.ofNat 32 s.val + 128#32).toInt = ((s.val + 128 : ℕ) : ℤ) := by
    rw [← e (s.val + 128) (by omega), BitVec.ofNat_add]
  show IntOp.andi (IntOp.cmpi .sle (BitVec.ofNat 32 s.val) (BitVec.ofNat 32 t.val))
    (IntOp.cmpi .slt (BitVec.ofNat 32 t.val) (BitVec.ofNat 32 s.val + 128#32)) = _
  generalize BitVec.ofNat 32 s.val + 128#32 = w at hs' ⊢
  simp only [IntOp.andi, IntOp.cmpi, IntOp.addi, BitVec.sle, BitVec.slt, hs, ht, hs', keep]
  by_cases h1 : s.val ≤ t.val <;> by_cases h2 : t.val < s.val + 128 <;>
    (have h3 : ((t.val : ℤ) < (s.val : ℤ) + 128) ↔ t.val < s.val + 128 := by omega
     simp [h1, h2, h3]) <;> rfl

theorem score_at : res_main_v23_0 V (ix4 g h t s) = (head A B C g h).score t s := by
  unfold res_main_v23_0
  have hk := k_at V A B C hA hB hC g h
  have hq := q_at V A B C hA hB hC g h
  have hm := keep_at V g h
  generalize res_main_v23_1 V = M at hm ⊢
  generalize res_main_v3 V = Q at hq ⊢
  generalize res_main_v4 V = K at hk ⊢
  pointwise [Head.score, hm]
  simp only [hk, hq]
  by_cases hh : keep t s
  · rw [if_pos hh, if_pos hh]; rfl
  · rw [if_neg hh, if_neg hh]; exact neg_inf

theorem top_at : res_main_v26 V (ix3 g h t) = (head A B C g h).top t := by
  unfold res_main_v26
  have hs := score_at V A B C hA hB hC
  generalize res_main_v23_0 V = S at hs ⊢
  pointwise [Head.top]
  rw [neg_inf]
  refine le_antisymm (α := EReal) ?_ ?_
  · rw [Finset.fold_max_le]
    refine ⟨bot_le, fun i hi => ?_⟩
    have e := (Finset.mem_filter.1 hi).2
    have e0 : i 0 = g := congrFun e 0
    have e1 : i 1 = h := congrFun e 1
    have e2 : i 2 = t := congrFun e 2
    have e4 : S i = (head A B C g h).score t (i 3) := by
      refine (congrArg S ?_).trans (hs g h t (i 3))
      funext b
      fin_cases b
      exacts [e0, e1, e2, rfl]
    refine le_of_eq_of_le e4 ?_
    exact (Finset.le_fold_max _).2 (.inr ⟨i 3, Finset.mem_univ _, le_rfl⟩)
  · rw [Finset.fold_max_le]
    refine ⟨bot_le, fun s _ => ?_⟩
    rw [← hs]
    refine (Finset.le_fold_max _).2 (.inr ⟨ix4 g h t s, Finset.mem_filter.2 ⟨Finset.mem_univ _, ?_⟩, le_rfl⟩)
    funext b
    fin_cases b <;> rfl

theorem top1_at : res_main_v32 V (ix4 g h t 0) = (head A B C g h).top t := by
  unfold res_main_v32
  rw [← top_at V A B C hA hB hC]
  generalize res_main_v26 V = X
  pointwise

/-- Whether a score is the greatest, as a number. -/
theorem count_at : res_main_v30 V (ix4 g h t s)
    = if (head A B C g h).score t s = (head A B C g h).top t then (1 : EReal) else (0 : EReal) := by
  unfold res_main_v30
  rw [← top_at V A B C hA hB hC, ← score_at V A B C hA hB hC]
  generalize res_main_v26 V = X
  generalize res_main_v23_0 V = Y
  pointwise
  split <;> rename_i hh
  · simp [hh, FloatOps.uitofp]
  · simp [hh, FloatOps.uitofp]

omit hA hB hC in
theorem shift_of (X : FVec Ideal S2x8x4096x1 .f32) (Y : FVec Ideal S2x8x1x1 .f32) :
    (maximumf X (broadcastInDim S2x8x4096x1 ![0, 1, 2, 3] Gen.bcast_S2x8x1x1_S2x8x4096x1_0_1_2_3 Y)) (ix4 g h t 0)
    = max (X (ix4 g h t 0)) (Y (ix4 g h 0 0)) := by
  pointwise

theorem shift_at : res_main_v34 V (ix4 g h t 0) = (head A B C g h).shift t :=
  (shift_of g h t (res_main_v32 V) (res_main_v25 V)).trans
    (congrArg₂ max (top1_at V A B C hA hB hC g h t) (sink_at V A B C hA hB hC g h))

theorem pexp_at : res_main_v46 V (ix4 g h t s) = (head A B C g h).pexp t s := by
  unfold res_main_v46 Head.pexp
  have h0 := score_at V A B C hA hB hC g h t s
  have h1 := shift_at V A B C hA hB hC g h t
  generalize res_main_v23_0 V = X0 at h0 ⊢
  generalize res_main_v34 V = X1 at h1 ⊢
  pointwise
  simp only [h0, h1]

theorem esink_at : res_main_v51 V (ix4 g h t 0) = (head A B C g h).esink t := by
  unfold res_main_v51 Head.esink
  have h0 := sink_at V A B C hA hB hC g h
  have h1 := shift_at V A B C hA hB hC g h t
  generalize res_main_v25 V = X0 at h0 ⊢
  generalize res_main_v34 V = X1 at h1 ⊢
  pointwise
  simp only [h0, h1]

theorem den_at : res_main_v52 V (ix4 g h t 0) = (head A B C g h).den t := by
  unfold res_main_v52 Head.den
  have h0 := pexp_at V A B C hA hB hC g h t
  have h1 := esink_at V A B C hA hB hC g h t
  generalize res_main_v46 V = X0 at h0 ⊢
  generalize res_main_v51 V = X1 at h1 ⊢
  pointwise
  simp only [h0, h1]

theorem prob_at : res_main_v54 V (ix4 g h t s) = (head A B C g h).prob t s := by
  unfold res_main_v54 Head.prob
  have h0 := pexp_at V A B C hA hB hC g h t s
  have h1 := den_at V A B C hA hB hC g h t
  generalize res_main_v46 V = X0 at h0 ⊢
  generalize res_main_v52 V = X1 at h1 ⊢
  pointwise
  simp only [h0, h1]

theorem dprob_at : res_main_v63 V (ix4 g h t s) = (head A B C g h).dprob t s := by
  unfold res_main_v63 Head.dprob
  have h0 := o_at V A B C hA hB hC g h t
  have h1 := v_at V A B C hA hB hC g h s
  generalize res_main_v62 V = X0 at h0 ⊢
  generalize res_main_v5 V = X1 at h1 ⊢
  pointwise
  simp only [h0, h1]

theorem dden_at : res_main_v71 V (ix4 g h t 0) = (head A B C g h).dden t := by
  unfold res_main_v71 Head.dden
  have h0 := dprob_at V A B C hA hB hC g h t
  have h1 := den_at V A B C hA hB hC g h t
  have h2 := pexp_at V A B C hA hB hC g h t
  generalize res_main_v63 V = X0 at h0 ⊢
  generalize res_main_v52 V = X1 at h1 ⊢
  generalize res_main_v46 V = X2 at h2 ⊢
  pointwise
  simp only [h0, h1, h2]

omit hA hB hC in
theorem dshifted_of (X Z : FVec Ideal S2x8x4096x4096 .f32) (Y W : FVec Ideal S2x8x4096x1 .f32) :
    (mulf (addf (Host.divf X (broadcastInDim S2x8x4096x4096 ![0, 1, 2, 3] Gen.bcast_S2x8x4096x1_S2x8x4096x4096_0_1_2_3 Y))
      (broadcastInDim S2x8x4096x4096 ![0, 1, 2] Gen.bcast_S2x8x4096_S2x8x4096x4096_0_1_2
        (Host.reduceAdd W (constant S_ .f32 0x00000000#32) Gen.reducesTo_S2x8x4096x1_S2x8x4096_d3 Gen.h_S_))) Z) (ix4 g h t s)
    = (Ideal.div (X (ix4 g h t s)) (Y (ix4 g h t 0)) + W (ix4 g h t 0)) * Z (ix4 g h t s) := by
  pointwise
  rw [Fin.sum_univ_one]

theorem dshifted_at : res_main_v79 V (ix4 g h t s) = (head A B C g h).dshifted t s := by
  refine (dshifted_of g h t s (res_main_v63 V) (res_main_v46 V) (res_main_v52 V) (res_main_v71 V)).trans ?_
  rw [dprob_at V A B C hA hB hC, den_at V A B C hA hB hC, pexp_at V A B C hA hB hC, dden_at V A B C hA hB hC]
  rfl

omit hA hB hC in
/-- What comes through the greatest score is nothing, where the shift's gradient is. -/
theorem none_of (W Z : FVec Ideal S2x8x4096x1 .f32) (N : FVec Ideal S2x8x4096x4096 .f32) (hW : W (ix4 g h t 0) = 0)
    {n : Fin 4096 → EReal} (hN : ∀ s, N (ix4 g h t s) = n s) (hn : ∑ s, n s ≠ 0) :
    (Host.divf (Host.reduceAdd (mulf W Z) (constant S_ .f32 0x00000000#32) Gen.reducesTo_S2x8x4096x1_S2x8x4096_d3 Gen.h_S_)
      (Host.reduceAdd N (constant S_ .f32 0x00000000#32) Gen.reducesTo_S2x8x4096x4096_S2x8x4096_d3 Gen.h_S_)) (ix3 g h t) = 0 := by
  pointwise [hN]
  rw [Fin.sum_univ_one]
  refine (congrArg (Ideal.div · _) (show _ * _ = (0 : EReal) by rw [hW, zero_mul])).trans ?_
  exact Ideal.zero_div hn

omit hA hB hC in
theorem dshift_of (X Y : FVec Ideal S2x8x4096x1 .f32) (Z : FVec Ideal S2x8x4096x4096 .f32) {x y : EReal} {z : Fin 4096 → EReal}
    (hX : X (ix4 g h t 0) = x) (hY : Y (ix4 g h t 0) = y) (hZ : ∀ s, Z (ix4 g h t s) = z s) :
    (addf (Host.negf (mulf X Y)) (shapeCast S2x8x4096x1 (Host.reduceAdd (Host.negf Z) (constant S_ .f32 0x00000000#32)
      Gen.reducesTo_S2x8x4096x4096_S2x8x4096_d3 Gen.h_S_) Gen.shapeCasts_S2x8x4096_S2x8x4096x1)) (ix4 g h t 0)
    = -(x * y) + ∑ s, -z s := by
  pointwise [hX, hY, hZ]

omit hA hB hC in
theorem dscore_of (M : IVec S2x8x4096x4096 1) (X N : FVec Ideal S2x8x4096x4096 .f32) (R : FVec Ideal S2x8x4096 .f32)
    (hR : R (ix3 g h t) = 0) :
    (transpose S2x4096x4096x8 [0, 3, 2, 1] (mulf (select M (addf X (mulf (broadcastInDim S2x8x4096x4096 ![0, 1, 2]
      Gen.bcast_S2x8x4096_S2x8x4096x4096_0_1_2 R) N))
      (broadcastInDim S2x8x4096x4096 ![] Gen.bcast_S_S2x8x4096x4096 (constant S_ .f32 0x00000000#32)))
      (broadcastInDim S2x8x4096x4096 ![] Gen.bcast_S_S2x8x4096x4096 (constant S_ .f32 0x3E000000#32)))
      Gen.transposes_S2x8x4096x4096_S2x4096x4096x8_0_3_2_1) (ix4 g s t h)
    = Scalar.select (M (ix4 g h t s)) (X (ix4 g h t s)) 0 * eighth := by
  pointwise [hR]
  rw [zero_mul, add_zero]

/-- The products' gradient: the shift's gradient is nothing, and so is what comes through the greatest score. -/
theorem dscore_at (hz : (head A B C g h).dshift t = 0) (hn : (head A B C g h).count t ≠ 0) :
    res_main_v93 V (ix4 g s t h) = (head A B C g h).dscore t s := by
  refine (dscore_of g h t s (res_main_v23_1 V) (res_main_v79 V) (res_main_v30 V) _ (none_of g h t _ _ (res_main_v30 V) ?_
    (count_at V A B C hA hB hC g h t) hn)).trans ?_
  · exact (dshift_of g h t (res_main_v71 V) (res_main_v51 V) (res_main_v79 V) (dden_at V A B C hA hB hC g h t)
      (esink_at V A B C hA hB hC g h t) (dshifted_at V A B C hA hB hC g h t)).trans hz
  · rw [keep_at, dshifted_at V A B C hA hB hC]
    unfold Head.dscore
    split <;> rfl

/-- The three gradients side by side. -/
def join (X1 : FVec Ideal S2x4096x8x64 .f32) (X2 : FVec Ideal S2x4096x64 .f32) (X3 : FVec Ideal S2x64x4096 .f32) : FVec Ideal S4096x1280 .f32 :=
  (concatenate S4096x1280 1 [⟨S4096x1024, ((shapeCast _ (transpose S4096x2x8x64 [1, 0, 2, 3] X1 Gen.transposes_S2x4096x8x64_S4096x2x8x64_1_0_2_3) Gen.shapeCasts_S4096x2x8x64_S4096x1024) : (⟨S4096x1024, .f32⟩ : BufTy).Contents (Elt Ideal))⟩, ⟨S4096x128, ((shapeCast _ (transpose S4096x2x64 [1, 0, 2] X2 Gen.transposes_S2x4096x64_S4096x2x64_1_0_2) Gen.shapeCasts_S4096x2x64_S4096x128) : (⟨S4096x128, .f32⟩ : BufTy).Contents (Elt Ideal))⟩, ⟨S4096x128, ((shapeCast _ (transpose S4096x2x64 [2, 0, 1] X3 Gen.transposes_S2x64x4096_S4096x2x64_2_0_1) Gen.shapeCasts_S4096x2x64_S4096x128) : (⟨S4096x128, .f32⟩ : BufTy).Contents (Elt Ideal))⟩] Gen.concatenates_S4096x1024_S4096x128_S4096x128_S4096x1280_d1 : (⟨S4096x1280, .f32⟩ : BufTy).Contents (Elt Ideal))

omit hA hB hC in
theorem join_q (X1 : FVec Ideal S2x4096x8x64 .f32) (X2 : FVec Ideal S2x4096x64 .f32) (X3 : FVec Ideal S2x64x4096 .f32) :
    join X1 X2 X3 (ix2 t ⟨g.val * 512 + h.val * 64 + d.val, by omega⟩) = X1 (ix4 g t h d) := by
  pointwise [join]
  split_ifs <;> first | rfl | omega

omit hA hB hC in
theorem join_k (X1 : FVec Ideal S2x4096x8x64 .f32) (X2 : FVec Ideal S2x4096x64 .f32) (X3 : FVec Ideal S2x64x4096 .f32) :
    join X1 X2 X3 (ix2 t ⟨1024 + (g.val * 64 + d.val), by omega⟩) = X2 (ix3 g t d) := by
  pointwise [join]
  split_ifs <;> first | rfl | omega

omit hA hB hC in
theorem join_v (X1 : FVec Ideal S2x4096x8x64 .f32) (X2 : FVec Ideal S2x4096x64 .f32) (X3 : FVec Ideal S2x64x4096 .f32) :
    join X1 X2 X3 (ix2 t ⟨1152 + (g.val * 64 + d.val), by omega⟩) = X3 (ix3 g d t) := by
  pointwise [join]
  split_ifs <;> try omega
  exact congrArg₂ (fun a b => X3 (ix3 a b t)) (Fin.ext (by show (1152 + (g.val * 64 + d.val) - 1024 - 128) / 64 = g.val; omega))
    (Fin.ext (by show (1152 + (g.val * 64 + d.val) - 1024 - 128) % 64 = d.val; omega))

/-- The reference's result. -/
def res : FVec Ideal S4096x1280 .f32 :=
  join (Host.dotGeneral (φ₁ := .f32) (φ₂ := .f32) dot_S2x4096x4096x8_S4096x2x64_S2x4096x8x64_1_0_23_2_0_1 none (res_main_v93 V) (res_main_v4 V))
    (Host.dotGeneral (φ₁ := .f32) (φ₂ := .f32) dot_S2x4096x4096x8_S4096x2x8x64_S2x4096x64_23_02_1_3_0_1 none (res_main_v93 V) (res_main_v3 V))
    (Host.dotGeneral (φ₁ := .f32) (φ₂ := .f32) dot_S2x64x8x4096_S2x8x4096x4096_S2x64x4096_23_12_1_3_0_0 none (res_main_v62 V) (res_main_v54 V))

omit hA hB hC in
theorem dot_q (X1 : FVec Ideal S2x4096x4096x8 .f32) (X2 : FVec Ideal S4096x2x64 .f32) :
    Host.dotGeneral (φ₁ := .f32) (φ₂ := .f32) (F := Ideal) dot_S2x4096x4096x8_S4096x2x64_S2x4096x8x64_1_0_23_2_0_1 none X1 X2 (ix4 g t h d)
      = ∑ s, X1 (ix4 g s t h) * X2 (ix3 s g d) := by
  pointwise

omit hA hB hC in
theorem dot_k (X1 : FVec Ideal S2x4096x4096x8 .f32) (X2 : FVec Ideal S4096x2x8x64 .f32) :
    Host.dotGeneral (φ₁ := .f32) (φ₂ := .f32) (F := Ideal) dot_S2x4096x4096x8_S4096x2x8x64_S2x4096x64_23_02_1_3_0_1 none X1 X2 (ix3 g s d)
      = ∑ t, ∑ h, X1 (ix4 g s t h) * X2 (ix4 t g h d) := by
  pointwise

omit hA hB hC in
theorem dot_v (X1 : FVec Ideal S2x64x8x4096 .f32) (X2 : FVec Ideal S2x8x4096x4096 .f32) :
    Host.dotGeneral (φ₁ := .f32) (φ₂ := .f32) (F := Ideal) dot_S2x64x8x4096_S2x8x4096x4096_S2x64x4096_23_12_1_3_0_0 none X1 X2 (ix3 g d s)
      = ∑ h, ∑ t, X1 (ix4 g d h t) * X2 (ix4 g h t s) := by
  pointwise

variable (hz : ∀ g h t, (head A B C g h).dshift t = 0) (hn : ∀ g h t, (head A B C g h).count t ≠ 0)
include hz hn in
theorem res_q : res V (ix2 t ⟨g.val * 512 + h.val * 64 + d.val, by omega⟩) = (head A B C g h).gradQ t d := by
  unfold res
  rw [join_q, dot_q]
  exact Finset.sum_congr (M := EReal) rfl fun s _ => congrArg₂ (fun x y : EReal => x * y)
    (dscore_at V A B C hA hB hC g h t s (hz g h t) (hn g h t)) (k_at V A B C hA hB hC g h s d)

include hz hn in
theorem res_k : res V (ix2 s ⟨1024 + (g.val * 64 + d.val), by omega⟩) = gradK (head A B C g) s d := by
  unfold res
  rw [join_k, dot_k]
  exact Finset.sum_congr (M := EReal) rfl fun t _ => Finset.sum_congr (M := EReal) rfl fun h _ => congrArg₂ (fun x y : EReal => x * y)
    (dscore_at V A B C hA hB hC g h t s (hz g h t) (hn g h t)) (q_at V A B C hA hB hC g h t d)

theorem res_v : res V (ix2 s ⟨1152 + (g.val * 64 + d.val), by omega⟩) = gradV (head A B C g) s d := by
  unfold res
  rw [join_v, dot_v]
  exact Finset.sum_congr (M := EReal) rfl fun h _ => Finset.sum_congr (M := EReal) rfl fun t _ => congrArg₂ (fun x y : EReal => x * y)
    (o_at V A B C hA hB hC g h t d) (prob_at V A B C hA hB hC g h t s)

end Cert.AttnBwdRefIdeal.Hand

end
-- ==== Proof.AttnBwd.lean ====
/- The attention's backward pass: block after block of 128 rows from the last to the first, each leaving for the next
   what its queries add to the gradients of the keys and values before it, is the gradient of the whole sequence. -/
module

public import proofs.«01_k».proof.Defs
public import proofs.«01_k».proof.Proof.AttnFits
public import proofs.«01_k».proof.Proof.AttnReal
public import proofs.«01_k».proof.Proof.AttnRef
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.AttnBwdIdeal.Hand

open Cert.AttnBwdIdeal Cert.AttnBwdIdeal.Gen Cert.Attn

variable (m : (ℓ : Loc nD τ sig) → Buf (Elt Ideal) ℓ)

variable (A : FVec Ideal S4096x1280 .f32) (B : FVec Ideal S1x16 .f32) (C : FVec Ideal S4096x1024 .f32)

/-- The factor of what is left by a step that has a block before. -/
theorem factor (b : BitVec 1) (hb : b = 0#1) : k0_pay434 (F := Ideal) b = (1 : EReal) := by
  subst hb
  have e : (BitVec.setWidth 32 (IntOp.xori 0#1 1#1)).toInt = 1 := by decide
  change ((((BitVec.setWidth 32 (IntOp.xori 0#1 1#1)).toInt : ℤ) : ℝ) : EReal) = 1
  rw [e]
  simp

/-- A tile as one of the two halves of what is left. -/
theorem half_at (x : Tile) (w : EReal) (hw : w = 1) (i l : Fin 128) :
    (shapeCast S1x128x128 (mulf x (broadcast S128x128 w)) shapeCasts_S128x128_S1x128x128 : FVec Ideal S1x128x128 .f32) (ix3 0 i l) = x (ix2 i l) := by
  subst hw
  pointwise

/-- The last piece written, read back. -/
theorem read_last {s : Shape} {e : EltTy} (r : Rect s) (q : r.shape.Idx → Elt Ideal e) (L : List (View.Piece (Elt Ideal) s e)) :
    View.ld (View.canon (⟨r, q⟩ :: L)) r = q := funext fun j => View.canon_cons_emb r q L j

/-- A piece beside the last one written. -/
theorem read_beside {s : Shape} {e : EltTy} (r r' : Rect s) (h : LoadRect.disj r' r.toLoadRect = true) (q : r'.shape.Idx → Elt Ideal e)
    (L : List (View.Piece (Elt Ideal) s e)) : View.ld (View.canon (⟨r', q⟩ :: L)) r = View.ld (View.canon L) r :=
  funext fun j => View.canon_cons_of_not_mem ⟨r', q⟩ L (LoadRect.idx_not_mem_of_disj h j)

/-- The keys' part left after a step. -/
theorem leftK_at (R : Reads) (L : List (View.Piece (Elt Ideal) S2x128x128 .f32)) (hf : R.first = 0#1) (i l : Fin 128) :
    leftK (leftBlock R L) (ix3 0 i l) = R.dkp (ix2 i l) := by
  unfold leftK leftBlock
  rw [read_beside _ _ (by rfl), read_last]
  exact half_at _ _ (factor _ hf) i l

/-- The values' part left after a step. -/
theorem leftV_at (R : Reads) (L : List (View.Piece (Elt Ideal) S2x128x128 .f32)) (hf : R.first = 0#1) (i l : Fin 128) :
    leftV (leftBlock R L) (ix3 0 i l) = R.dvp (ix2 i l) := by
  unfold leftV leftBlock
  rw [read_last]
  exact half_at _ _ (factor _ hf) i l

theorem zero_at (j : S2x128x128.Idx) : (k0_pay3 (F := Ideal) : FVec Ideal S2x128x128 .f32) j = 0 := by
  pointwise [k0_pay3]

/-- Nothing is left before the first step. -/
theorem fill_at (r : Rect S2x128x128) (j : r.shape.Idx) :
    View.readCov (Val := Elt Ideal) (s := S2x128x128) (e := .f32) (View.whole cc0_scratch0) [emptied] r.toLoadRect j = (0 : EReal) := by
  have h := View.readCov_fill (Val := Elt Ideal) (s := S2x128x128) (e := .f32) (View.whole cc0_scratch0) (off := ![0, 0, 0])
    inb_S2x128x128_S2x128x128_0_0_0 (k0_pay3 (F := Ideal)) [] r (by decide)
  exact (congrFun h j).trans (zero_at _)

theorem emptyK_at (j : S1x128x128.Idx) : emptyK j = (0 : EReal) := fill_at _ _

theorem emptyV_at (j : S1x128x128.Idx) : emptyV j = (0 : EReal) := fill_at _ _

section
variable {R : Reads} {H : Fin 2 → Fin 8 → Head} {n : Fin 32} (F : Fits R H n)
include F

/-- What the queries of the block after add to a key's gradient. -/
def laterK (H : Fin 2 → Fin 8 → Head) (n : Fin 32) (g : Fin 2) (c : Fin 128) (d : Fin 64) : EReal :=
  if hn : n.val + 1 < 32 then ∑ i, ∑ h, (H g h).dscore (pos ⟨n.val + 1, hn⟩ i) (pos n c) * (H g h).q (pos ⟨n.val + 1, hn⟩ i) d else 0

/-- What the queries of the block after add to a value's gradient. -/
def laterV (H : Fin 2 → Fin 8 → Head) (n : Fin 32) (g : Fin 2) (c : Fin 128) (d : Fin 64) : EReal :=
  if hn : n.val + 1 < 32 then ∑ i, ∑ h, (H g h).o (pos ⟨n.val + 1, hn⟩ i) d * (H g h).prob (pos ⟨n.val + 1, hn⟩ i) (pos n c) else 0

/-- A key's gradient is what its own block's queries add and what those of the block after add. -/
theorem key_at (g : Fin 2) (c : Fin 128) (d : Fin 64) :
    R.dkc (ix2 c ⟨g.val * 64 + d.val, by omega⟩) + laterK H n g c d = gradK (H g) (pos n c) d := by
  unfold gradK
  rw [sum_readers n c _ fun t ht => Finset.sum_eq_zero fun h _ => by rw [Head.dscore_off _ _ _ ht, zero_mul]]
  refine congrArg₂ (· + ·) ?_ rfl
  unfold Reads.dkc
  rw [dkOf_at g c F d (w := fun h i => (H g h).dscore (pos n i) (pos n c)) fun h i => cur_at g h i c F]
  exact Finset.sum_comm

/-- A value's gradient likewise. -/
theorem value_at (hd : ∀ g h t, (H g h).den t ≠ 0) (g : Fin 2) (c : Fin 128) (d : Fin 64) :
    R.dvc (ix2 c ⟨g.val * 64 + d.val, by omega⟩) + laterV H n g c d = gradV (H g) (pos n c) d := by
  unfold gradV
  rw [Finset.sum_comm, sum_readers n c _ fun t ht => Finset.sum_eq_zero fun h _ => by rw [Head.prob_off _ _ _ (hd g h t) ht, mul_zero]]
  refine congrArg₂ (· + ·) ?_ rfl
  unfold Reads.dvc
  rw [dvOf_at g c F d (w := fun h i => (H g h).prob (pos n i) (pos n c)) fun h i => curP_at g h i c F (hd _ _ _), Finset.sum_comm]
  exact Finset.sum_congr rfl fun i _ => Finset.sum_congr rfl fun h _ => mul_comm _ _

/-- What a step leaves of the keys' gradients is what its queries add to the block before. -/
theorem left_key (hn : n.val ≠ 0) (g : Fin 2) (c : Fin 128) (d : Fin 64) :
    R.dkp (ix2 c ⟨g.val * 64 + d.val, by omega⟩) = laterK H (prevb n) g c d := by
  unfold Reads.dkp
  rw [dkOf_at g c F d (w := fun h i => (H g h).dscore (pos n i) (pos (prevb n) c)) fun h i => (prev_at g h i c F).trans (if_neg hn)]
  unfold laterK
  have e : (prevb n).val + 1 = n.val := by unfold prevb; dsimp only; omega
  have hn' : (prevb n).val + 1 < 32 := by omega
  have e' : (⟨(prevb n).val + 1, hn'⟩ : Fin 32) = n := Fin.ext e
  rw [dif_pos hn', e']
  exact Finset.sum_comm

theorem left_value (hd : ∀ g h t, (H g h).den t ≠ 0) (hn : n.val ≠ 0) (g : Fin 2) (c : Fin 128) (d : Fin 64) :
    R.dvp (ix2 c ⟨g.val * 64 + d.val, by omega⟩) = laterV H (prevb n) g c d := by
  unfold Reads.dvp
  rw [dvOf_at g c F d (w := fun h i => (H g h).prob (pos n i) (pos (prevb n) c)) fun h i => (prevP_at g h i c F (hd _ _ _)).trans (if_neg hn)]
  unfold laterV
  have e : (prevb n).val + 1 = n.val := by unfold prevb; dsimp only; omega
  have hn' : (prevb n).val + 1 < 32 := by omega
  have e' : (⟨(prevb n).val + 1, hn'⟩ : Fin 32) = n := Fin.ext e
  rw [dif_pos hn', e', Finset.sum_comm]
  exact Finset.sum_congr rfl fun i _ => Finset.sum_congr rfl fun h _ => mul_comm _ _

variable {y : S128x1280.Idx} {v : EReal}
  (hq : ∀ (g : Fin 2) (h : Fin 8) (d : Fin 64), (y 1).val = g.val * 512 + h.val * 64 + d.val → (H g h).gradQ (pos n (y 0)) d = v)

include hq in
/-- A column block of the queries' gradient. -/
theorem q_piece (g : Fin 2) (a b : Fin 8) (hab : b.val = a.val + 1) (x : S128x128.Idx) (h0 : (y 0).val = (x 0).val)
    (h1 : (y 1).val = (g.val * 512 + a.val * 64) + (x 1).val) : lo (R.dq g a b) x = v := by
  have hx : (x 1).val < 128 := (x 1).isLt
  have e0 : y 0 = x 0 := Fin.ext h0
  have e : lo (R.dq g a b) x = R.dq g a b (ix2 (x 0) (x 1)) := congrArg (R.dq g a b) (ix2_eta x).symm
  rw [e, dq_at g (x 0) (x 1) F a b ⟨(x 1).val % 64, by omega⟩ rfl, ← e0]
  refine hq g _ _ ?_
  split_ifs <;> dsimp only <;> omega

/-- A step's block at an index. -/
theorem block_at (hd : ∀ g h t, (H g h).den t ≠ 0) (ck cv : FVec Ideal S1x128x128 .f32)
    (hck : ∀ (g : Fin 2) c (d : Fin 64), ck (ix3 0 c ⟨g.val * 64 + d.val, by omega⟩) = laterK H n g c d)
    (hcv : ∀ (g : Fin 2) c (d : Fin 64), cv (ix3 0 c ⟨g.val * 64 + d.val, by omega⟩) = laterV H n g c d)
    (hq : ∀ (g : Fin 2) (h : Fin 8) (d : Fin 64), (y 1).val = g.val * 512 + h.val * 64 + d.val → (H g h).gradQ (pos n (y 0)) d = v)
    (hk : ∀ (g : Fin 2) (d : Fin 64), (y 1).val = 1024 + (g.val * 64 + d.val) → gradK (H g) (pos n (y 0)) d = v)
    (hv : ∀ (g : Fin 2) (d : Fin 64), (y 1).val = 1152 + (g.val * 64 + d.val) → gradV (H g) (pos n (y 0)) d = v) :
    outBlock R ck cv y = v := by
  have side (o : Nat) (X : Tile) (w : FVec Ideal S1x128x128 .f32) (G : Fin 2 → Fin 128 → Fin 64 → EReal)
      (hX : ∀ (g : Fin 2) c (d : Fin 64), X (ix2 c ⟨g.val * 64 + d.val, by omega⟩) + w (ix3 0 c ⟨g.val * 64 + d.val, by omega⟩) = G g c d)
      (hG : ∀ (g : Fin 2) (d : Fin 64), (y 1).val = o + (g.val * 64 + d.val) → G g (y 0) d = v)
      (x : S128x128.Idx) (h0 : (y 0).val = (x 0).val) (h1 : (y 1).val = o + (x 1).val) :
      lo (addf X (shapeCast S128x128 w shapeCasts_S1x128x128_S128x128)) x = v := by
    obtain ⟨i, l, rfl⟩ : ∃ i l, x = ix2 i l := ⟨x 0, x 1, (ix2_eta x).symm⟩
    have hl := l.isLt
    have e0 : y 0 = i := Fin.ext h0
    have h1' : (y 1).val = o + l.val := h1
    have e1 : (⟨l.val / 64 * 64 + l.val % 64, by omega⟩ : Fin 128) = l := Fin.ext (by dsimp only; omega)
    refine Eq.trans ?_ ((hX ⟨l.val / 64, by omega⟩ i ⟨l.val % 64, by omega⟩).trans
      ((congrArg (fun z => G _ z _) e0.symm).trans (hG ⟨l.val / 64, by omega⟩ ⟨l.val % 64, by omega⟩ (by dsimp only; omega))))
    dsimp only
    rw [e1]
    pointwise [lo]
  unfold outBlock
  canon_tiles x hx
  · refine side 1152 _ _ (fun g c d => gradV (H g) (pos n c) d) (fun g c d => ?_) hv x hx0 hx1
    rw [hcv]; exact value_at F hd g c d
  · refine side 1024 _ _ (fun g c d => gradK (H g) (pos n c) d) (fun g c d => ?_) hk x hx0 hx1
    rw [hck]; exact key_at F g c d
  · exact q_piece F hq 1 6 7 rfl x hx0 (hx1.trans (congrArg (· + (x 1).val) (by decide)))
  · exact q_piece F hq 1 4 5 rfl x hx0 (hx1.trans (congrArg (· + (x 1).val) (by decide)))
  · exact q_piece F hq 1 2 3 rfl x hx0 (hx1.trans (congrArg (· + (x 1).val) (by decide)))
  · exact q_piece F hq 1 0 1 rfl x hx0 (hx1.trans (congrArg (· + (x 1).val) (by decide)))
  · exact q_piece F hq 0 6 7 rfl x hx0 (hx1.trans (congrArg (· + (x 1).val) (by decide)))
  · exact q_piece F hq 0 4 5 rfl x hx0 (hx1.trans (congrArg (· + (x 1).val) (by decide)))
  · exact q_piece F hq 0 2 3 rfl x hx0 (hx1.trans (congrArg (· + (x 1).val) (by decide)))
  · exact q_piece F hq 0 0 1 rfl x hx0 (hx1.trans (Nat.zero_add _).symm)

end

variable (A : FVec Ideal S4096x1280 .f32) (B : FVec Ideal S1x16 .f32) (C : FVec Ideal S4096x1024 .f32) (c : Dev nD)
  (hA : m ((c : Thread nD τ).loc main_arg0) = A) (hB : m ((c : Thread nD τ).loc main_arg1) = B)
  (hC : m ((c : Thread nD τ).loc main_arg2) = C)

/-- What a step after the first has of the step before. -/
theorem before_eq (t : Fin cfg0.N) (t' : Fin cfg0.N) (ht : t'.val = t.val - 1) :
    ∃ L, before m c t = leftBlock (reads m c t') L := by
  obtain ⟨k, hk⟩ := t'
  obtain rfl : k = t.val - 1 := ht
  by_cases h : (t.val - 1) % 32 = 0
  · exact ⟨_, leftA m c ⟨t.val - 1, hk⟩ h⟩
  · exact ⟨_, leftB m c ⟨t.val - 1, hk⟩ h⟩

include hA hB hC in
/-- A step's block at an index, in terms of the heads. -/
theorem out_at (hd : ∀ g h t, (head A B C g h).den t ≠ 0) (t : Fin cfg0.N) (y : S128x1280.Idx) (v : EReal)
    (hq : ∀ (g : Fin 2) (h : Fin 8) (d : Fin 64), (y 1).val = g.val * 512 + h.val * 64 + d.val → (head A B C g h).gradQ (pos (blkOf t) (y 0)) d = v)
    (hk : ∀ (g : Fin 2) (d : Fin 64), (y 1).val = 1024 + (g.val * 64 + d.val) → gradK (head A B C g) (pos (blkOf t) (y 0)) d = v)
    (hv : ∀ (g : Fin 2) (d : Fin 64), (y 1).val = 1152 + (g.val * 64 + d.val) → gradV (head A B C g) (pos (blkOf t) (y 0)) d = v) :
    (outsAt0 m c t.val t.isLt).1 y = v := by
  have hN : t.val < 32 := t.isLt
  have F := fits m A B C c hA hB hC t
  by_cases h0 : t.val % 32 = 0
  · rw [outA m c t h0]
    have hb : ¬(blkOf t).val + 1 < 32 := by unfold blkOf; dsimp only; omega
    refine block_at F hd _ _ (fun g i d => ?_) (fun g i d => ?_) hq hk hv
    · exact (emptyK_at _).trans (by unfold laterK; rw [dif_neg hb])
    · exact (emptyV_at _).trans (by unfold laterV; rw [dif_neg hb])
  · rw [outB m c t h0]
    let t' : Fin cfg0.N := ⟨t.val - 1, Nat.lt_of_le_of_lt (Nat.sub_le _ _) t.isLt⟩
    obtain ⟨L, hL⟩ := before_eq m c t t' rfl
    have F' := fits m A B C c hA hB hC t'
    have hn : (blkOf t').val ≠ 0 := by unfold blkOf; dsimp only [t']; omega
    have hp : prevb (blkOf t') = blkOf t := Fin.ext (by unfold prevb blkOf; dsimp only [t']; omega)
    have hf : (reads m c t').first = 0#1 := F'.first.trans (if_neg hn)
    rw [hL]
    refine block_at F hd _ _ (fun g i d => ?_) (fun g i d => ?_) hq hk hv
    · rw [leftK_at _ _ hf, left_key F' hn, hp]
    · rw [leftV_at _ _ hf, left_value F' hd hn, hp]

/-- A finite entry is a real number. -/
theorem real_of {s : Shape} (X : FVec Ideal s .f32) (hb : (⟨0, ![]⟩ : Shape).BroadcastsInDim s (![] : Fin 0 → Fin s.rank)) (j : s.Idx)
    (h : cmpf .olt (Host.absf X) (broadcastInDim s ![] hb (constant ⟨0, ![]⟩ .f32 0x7F800000#32)) j = 1#1) : ∃ r : ℝ, X j = r := by
  have e : Ideal.ofBits .f32 0x7F800000#32 = ⊤ := by simp [Ideal.ofBits, Ideal.ieee]
  revert h
  pointwise
  rw [e]
  generalize X j = x
  have ha (y : EReal) : FloatOps.absf (F := Ideal) (φ := .f32) y = max y (-y) := rfl
  rw [ha]
  induction x using EReal.rec with
  | bot => simp
  | top => simp
  | coe r => exact fun _ => ⟨r, rfl⟩

section
variable [Cert.Pre_finite_attn.Facts]

/-- Every head of finite arguments is finite. -/
theorem finite_heads (h : Pre_AttnBwdIdeal_finite_attn m)
    (g : Fin 2) (k : Fin 8) : (head (m ((c : Thread nD τ).loc main_arg0)) (m ((c : Thread nD τ).loc main_arg1)) (m ((c : Thread nD τ).loc main_arg2)) g k).Finite := by
  obtain ⟨a, b, d⟩ := h c
  exact ⟨fun t d => real_of _ _ _ (congrFun a _), fun t d => real_of _ _ _ (congrFun a _), fun t d => real_of _ _ _ (congrFun a _),
    fun t e => real_of _ _ _ (congrFun d _), real_of _ _ _ (congrFun b _)⟩

end

open Cert.AttnBwdRefIdeal.Hand in
include hA hB hC in
/-- A step's block is its rows of the reference's result. -/
theorem ref_at (V : Valuation Cert.AttnBwdRefIdeal.τ Cert.AttnBwdRefIdeal.sig (Elt Ideal))
    (vA : V (Proc.devRef .tc Cert.AttnBwdRefIdeal.main_arg0) = A) (vB : V (Proc.devRef .tc Cert.AttnBwdRefIdeal.main_arg1) = B)
    (vC : V (Proc.devRef .tc Cert.AttnBwdRefIdeal.main_arg2) = C) (hf : ∀ g h, (head A B C g h).Finite)
    (t : Fin cfg0.N) (y : S128x1280.Idx) (r : Fin 4096) (q : Fin 1280) (hr : r.val = (31 - t.val) * 128 + y 0) (hq : q.val = y 1) :
    (outsAt0 m c t.val t.isLt).1 y = res V (ix2 r q) := by
  have e : pos (blkOf t) (y 0) = r := Fin.ext hr.symm
  have hz : ∀ g h t, (head A B C g h).dshift t = 0 := fun g h => Head.dshift_zero (hf g h)
  have hn : ∀ g h t, (head A B C g h).count t ≠ 0 := fun g h => Head.count_ne (hf g h)
  refine out_at m A B C c hA hB hC (fun g h => Head.den_ne (hf g h)) t y _ (fun g h d hy => ?_) (fun g d hy => ?_) fun g d hy => ?_
  · rw [e, ← res_q V A B C vA vB vC g h r d hz hn]
    exact congrArg (fun z => res V (ix2 r z)) (Fin.ext (hy.symm.trans hq.symm))
  · rw [e, ← res_k V A B C vA vB vC g r d hz hn]
    exact congrArg (fun z => res V (ix2 r z)) (Fin.ext (hy.symm.trans hq.symm))
  · rw [e, ← res_v V A B C vA vB vC g r d]
    exact congrArg (fun z => res V (ix2 r z)) (Fin.ext (hy.symm.trans hq.symm))

open Cert.AttnBwdRefIdeal.Hand in
include hA hB hC in
/-- The gradient after the run is the reference's. -/
theorem final (V : Valuation Cert.AttnBwdRefIdeal.τ Cert.AttnBwdRefIdeal.sig (Elt Ideal))
    (vA : V (Proc.devRef .tc Cert.AttnBwdRefIdeal.main_arg0) = A) (vB : V (Proc.devRef .tc Cert.AttnBwdRefIdeal.main_arg1) = B)
    (vC : V (Proc.devRef .tc Cert.AttnBwdRefIdeal.main_arg2) = C) (hf : ∀ g h, (head A B C g h).Finite) :
    (dats m 0 c).arrAt 7 cfg0.N = res V := by
  refine (dats m 0 c).arrAt_eq_of_covers 7 _ (by decide +kernel) fun t hf' y => ?_
  blk_simp; rw [after0_7]
  refine (ref_at m A B C c hA hB hC V vA vB vC hf t y (win0_7.blk t |>.view.emb y 0) (win0_7.blk t |>.view.emb y 1) ?_ ?_).trans ?_
  · blk_simp [idx t]
  · blk_simp [idx t]
  · exact congrArg _ (ix2_eta _)

/-- The two programs' results are equal, from memories that agree on finite arguments. -/
theorem algebraic [Cert.Pre_finite_attn.Facts] : Cert.algebraic_AttnBwdIdeal_AttnBwdRefIdeal_pre_finite_attn := by
  intro m g m' g' hpre hagree
  refine ⟨fun c => (dats m 0 c).arrAt 7 cfg0.N,
    (θ_run _ _ _).mono (fun r h c => ⟨(h c).1, (h c).2.2.2⟩) (Value.run_blocks m g),
    (θ_run _ _ _).mono (fun r h c => ?_) (Cert.AttnBwdRefIdeal.Value.run m' g')⟩
  obtain ⟨h0, h1, h2⟩ := hagree c
  refine ⟨(h c).1.trans ?_, (h c).2⟩
  refine Eq.trans ?_ (final m _ _ _ c rfl rfl rfl (StableHlo.launchContents m' c) h0 h1 h2 (finite_heads m c hpre)).symm
  rfl

end Cert.AttnBwdIdeal.Hand

end
-- ==== Proof.MlpDwdown.lean ====
/- The gradient of w_down: the product of the squared ReLU, transposed, with the MLP's gradient. Each block of the kernel's
   result is the reference's block. -/
module

public import proofs.«01_k».proof.Defs
public import proofs.«01_k».proof.Proof.Gen.MlpDwdownIdeal.Value
public import proofs.«01_k».proof.Proof.Gen.MlpDwdownRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MlpDwdownIdeal.Hand

open Cert.Common Cert.MlpDwdownIdeal Cert.MlpDwdownIdeal.Gen

/-- Every window's block index at every grid point. -/
theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

/-- The two programs' results are equal, from memories that agree on the arguments. -/
theorem algebraic : Cert.algebraic_MlpDwdownIdeal_MlpDwdownRefIdeal := by
  intro m g m' g' _ hagree
  refine ⟨fun c => (dats m 0 c).arrAt 2 cfg0.N, Value.run_blocks m g,
    (θ_run _ _ _).mono (fun r h c => ⟨(h c).1.trans ?_, (h c).2⟩) (Cert.MlpDwdownRefIdeal.Value.run m' g')⟩
  clear h
  obtain ⟨h0, h1, h2, h3⟩ := hagree c
  rw [h0, h1, h3]
  symm
  refine (dats m 0 c).arrAt_eq_of_covers 2 _ (by decide +kernel) fun t hf y => ?_
  blk_simp; rw [after0_2]; frame_out
  pointwise [k0_pay1]
  blk_point [iblk, V, idx t]
  refine congrArg (max · 0) ?_
  entry_read
  pointwise
  blk_point [idx t]

end Cert.MlpDwdownIdeal.Hand

end
-- ==== Proof.MixNorm.lean ====
/- The RMS normalisation before the mixers: each block of the kernel's rows is the reference's rows. -/
module

public import proofs.«01_k».proof.Defs
public import proofs.«01_k».proof.Proof.Gen.MixNormIdeal.Value
public import proofs.«01_k».proof.Proof.Gen.MixNormRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MixNormIdeal.Hand

open Cert.Common Cert.MixNormIdeal Cert.MixNormIdeal.Gen

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The two programs' results are equal, from memories that agree on the arguments. -/
theorem algebraic : Cert.algebraic_MixNormIdeal_MixNormRefIdeal := by
  intro m g m' g' _ hagree
  refine ⟨fun c => (dats m 0 c).arrAt 2 cfg0.N, Value.run_blocks m g,
    (θ_run _ _ _).mono (fun r h c => ⟨(h c).1.trans ?_, (h c).2⟩) (Cert.MixNormRefIdeal.Value.run m' g')⟩
  clear h
  obtain ⟨h0, h1⟩ := hagree c
  rw [h0, h1]
  symm
  refine (dats m 0 c).arrAt_eq_of_covers 2 _ (by decide +kernel) fun t hf y => ?_
  blk_simp; rw [after0_2]; frame_out
  pointwise [k0_pay1]
  blk_point [iblk, V_main_arg0, idx t]

end Cert.MixNormIdeal.Hand

end
-- ==== Proof.OutProj.lean ====
/- The mixers' output product with the residual, and the RMS normalisation of the sum: each block of the kernel's rows is
   the reference's rows. -/
module

public import proofs.«01_k».proof.Defs
public import proofs.«01_k».proof.Proof.Gen.OutProjIdeal.Value
public import proofs.«01_k».proof.Proof.Gen.OutProjRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OutProjIdeal.Hand

open Cert.Common Cert.OutProjIdeal Cert.OutProjIdeal.Gen

/-- Every window's block index at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

variable (m : (ℓ : Loc nD τ sig) → Buf (Elt Ideal) ℓ) (c : Dev nD) (t : Fin cfg0.N)

/-- The sum with the residual, at a point. -/
theorem resid (A : FVec Ideal S4096x1024 .f32) (B : FVec Ideal S4096x2048 .f32) (C : FVec Ideal S2048x1024 .f32)
    (hA : m ((c : Thread nD τ).loc main_arg0) = A) (hB : m ((c : Thread nD τ).loc main_arg1) = B) (hC : m ((c : Thread nD τ).loc main_arg2) = C)
    (y : S512x1024.Idx) (r : Fin 4096) (q : Fin 1024) (hr : r.val = t.val * 512 + y 0) (hq : q.val = y 1) :
    k0_pay1 (F := Ideal) (iblk m c 0 t) (iblk m c 1 t) (iblk m c 2 t) y
      = A (ix2 r q) + ∑ k : Fin 2048, B (ix2 r k) * C (ix2 k q) := by
  subst hA hB hC
  pointwise [k0_pay1]
  blk_point [iblk, V_main_arg0, idx t]

/-- The scale's row. -/
theorem scale_row (x : Fin 1024) : iblk m c 3 t (ix2 0 x) = m ((c : Thread nD τ).loc main_arg3) (ix1 x) := by
  blk_simp [iblk, idx t]
  entry_read
  pointwise
  blk_ext [idx t]

omit m c t in
/-- The two programs' results are equal, from memories that agree on the arguments. -/
theorem algebraic : Cert.algebraic_OutProjIdeal_OutProjRefIdeal := by
  intro m g m' g' _ hagree
  refine ⟨fun c => (dats m 0 c).arrAt 4 cfg0.N, fun c => (dats m 0 c).arrAt 5 cfg0.N, Value.run_blocks m g,
    (θ_run _ _ _).mono (fun r h c => ⟨(h c).1.trans ?_, (h c).2.1.trans ?_, (h c).2.2⟩) (Cert.OutProjRefIdeal.Value.run m' g')⟩
  all_goals
    clear h
    obtain ⟨h0, h1, h2, h3⟩ := hagree c
    simp only [h0, h1, h2, h3]
    symm
  · refine (dats m 0 c).arrAt_eq_of_covers 4 _ (by decide +kernel) fun t hf y => ?_
    blk_simp; rw [after0_4]; frame_out
    refine (resid m c t _ _ _ rfl rfl rfl y (win0_4.blk t |>.view.emb y 0) (win0_4.blk t |>.view.emb y 1) ?_ ?_).trans ?_
    · blk_simp [idx t]
    · blk_simp [idx t]
    · pointwise
  · refine (dats m 0 c).arrAt_eq_of_covers 5 _ (by decide +kernel) fun t hf y => ?_
    blk_simp; rw [after0_5]; frame_out
    obtain ⟨r, hr, hz⟩ : ∃ r : Fin 4096, r.val = t.val * 512 + y 0 ∧ (win0_5.blk t).view.emb y = ix2 r (y 1) :=
      ⟨(win0_5.blk t).view.emb y 0, by blk_simp [idx t], (ix2_eta _).symm.trans (congrArg _ (Fin.ext (by blk_simp [idx t])))⟩
    refine Eq.trans ?_ (congrArg _ hz.symm)
    pointwise [k0_pay2]
    simp only [scale_row m c t, scale_row m c t (y 1), resid m c t _ _ _ rfl rfl rfl y r (y 1) hr rfl,
      fun x => resid m c t _ _ _ rfl rfl rfl (ix2 (y 0) x) r x hr rfl]

end Cert.OutProjIdeal.Hand

end
-- ==== Proof.MlpDown.lean ====
/- The MLP's squared ReLU and second product with the residual, and the RMS normalisation of the sum: each block of the
   kernel's rows is the reference's rows. -/
module

public import proofs.«01_k».proof.Defs
public import proofs.«01_k».proof.Proof.Gen.MlpDownIdeal.Value
public import proofs.«01_k».proof.Proof.Gen.MlpDownRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MlpDownIdeal.Hand

open Cert.Common Cert.MlpDownIdeal Cert.MlpDownIdeal.Gen

/-- Every window's block index at every grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

variable (m : (ℓ : Loc nD τ sig) → Buf (Elt Ideal) ℓ) (c : Dev nD) (t : Fin cfg0.N)

/-- The sum with the residual, at a point. -/
theorem resid (A : FVec Ideal S4096x1024 .f32) (B : FVec Ideal S4096x4096 .f32) (C : FVec Ideal S4096x1024 .f32)
    (hA : m ((c : Thread nD τ).loc main_arg0) = A) (hB : m ((c : Thread nD τ).loc main_arg1) = B) (hC : m ((c : Thread nD τ).loc main_arg2) = C)
    (y : S512x1024.Idx) (r : Fin 4096) (q : Fin 1024) (hr : r.val = t.val * 512 + y 0) (hq : q.val = y 1) :
    k0_pay1 (F := Ideal) (iblk m c 0 t) (iblk m c 1 t) (iblk m c 2 t) y
      = A (ix2 r q) + ∑ k : Fin 4096, max (B (ix2 r k)) 0 * max (B (ix2 r k)) 0 * C (ix2 k q) := by
  subst hA hB hC
  pointwise [k0_pay1]
  blk_point [iblk, V_main_arg0, idx t]

/-- The scale's row. -/
theorem scale_row (x : Fin 1024) : iblk m c 3 t (ix2 0 x) = m ((c : Thread nD τ).loc main_arg3) (ix1 x) := by
  blk_simp [iblk, idx t]
  entry_read
  pointwise
  blk_ext [idx t]

omit m c t in
/-- The two programs' results are equal, from memories that agree on the arguments. -/
theorem algebraic : Cert.algebraic_MlpDownIdeal_MlpDownRefIdeal := by
  intro m g m' g' _ hagree
  refine ⟨fun c => (dats m 0 c).arrAt 4 cfg0.N, fun c => (dats m 0 c).arrAt 5 cfg0.N, Value.run_blocks m g,
    (θ_run _ _ _).mono (fun r h c => ⟨(h c).1.trans ?_, (h c).2.1.trans ?_, (h c).2.2⟩) (Cert.MlpDownRefIdeal.Value.run m' g')⟩
  all_goals
    clear h
    obtain ⟨h0, h1, h2, h3⟩ := hagree c
    simp only [h0, h1, h2, h3]
    symm
  · refine (dats m 0 c).arrAt_eq_of_covers 4 _ (by decide +kernel) fun t hf y => ?_
    blk_simp; rw [after0_4]; frame_out
    refine (resid m c t _ _ _ rfl rfl rfl y (win0_4.blk t |>.view.emb y 0) (win0_4.blk t |>.view.emb y 1) ?_ ?_).trans ?_
    · blk_simp [idx t]
    · blk_simp [idx t]
    · pointwise
  · refine (dats m 0 c).arrAt_eq_of_covers 5 _ (by decide +kernel) fun t hf y => ?_
    blk_simp; rw [after0_5]; frame_out
    obtain ⟨r, hr, hz⟩ : ∃ r : Fin 4096, r.val = t.val * 512 + y 0 ∧ (win0_5.blk t).view.emb y = ix2 r (y 1) :=
      ⟨(win0_5.blk t).view.emb y 0, by blk_simp [idx t], (ix2_eta _).symm.trans (congrArg _ (Fin.ext (by blk_simp [idx t])))⟩
    refine Eq.trans ?_ (congrArg _ hz.symm)
    pointwise [k0_pay2]
    simp only [scale_row m c t, scale_row m c t (y 1), resid m c t _ _ _ rfl rfl rfl y r (y 1) hr rfl,
      fun x => resid m c t _ _ _ rfl rfl rfl (ix2 (y 0) x) r x hr rfl]

end Cert.MlpDownIdeal.Hand

end
-- ==== Proof.OProj.lean ====
/- The attention's output product with its bias and the residual, and the RMS normalisation of the sum: each block of the
   kernel's rows is the reference's rows. -/
module

public import proofs.«01_k».proof.Defs
public import proofs.«01_k».proof.Proof.Gen.OProjIdeal.Value
public import proofs.«01_k».proof.Proof.Gen.OProjRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OProjIdeal.Hand

open Cert.Common Cert.OProjIdeal Cert.OProjIdeal.Gen

/-- Every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![0, 0]
    ∧ win0_5.index t = ![t.val, 0]
    ∧ win0_6.index t = ![t.val, 0] :=
  (by decide +kernel : ∀ t : Fin grid0.N, _)

variable (m : (ℓ : Loc nD τ sig) → Buf (Elt Ideal) ℓ) (c : Dev nD) (t : Fin cfg0.N)

/-- The sum with the residual, at a point. -/
theorem resid (A : FVec Ideal S4096x1024 .f32) (B : FVec Ideal S4096x1024 .f32) (C : FVec Ideal S1024x1024 .f32) (D : FVec Ideal S1024 .f32)
    (hA : m ((c : Thread nD τ).loc main_arg0) = A) (hB : m ((c : Thread nD τ).loc main_arg1) = B) (hC : m ((c : Thread nD τ).loc main_arg2) = C) (hD : m ((c : Thread nD τ).loc main_arg3) = D)
    (y : S512x1024.Idx) (r : Fin 4096) (q : Fin 1024) (hr : r.val = t.val * 512 + y 0) (hq : q.val = y 1) :
    k0_pay1 (F := Ideal) (iblk m c 0 t) (iblk m c 1 t) (iblk m c 2 t) (iblk m c 3 t) y
      = A (ix2 r q) + (∑ k : Fin 1024, B (ix2 r k) * C (ix2 k q) + D (ix1 q)) := by
  subst hA hB hC hD
  pointwise [k0_pay1]
  blk_point [iblk, V_main_arg0, idx t]

/-- The scale's row. -/
theorem scale_row (x : Fin 1024) : iblk m c 4 t (ix2 0 x) = m ((c : Thread nD τ).loc main_arg4) (ix1 x) := by
  blk_simp [iblk, idx t]
  entry_read
  pointwise
  blk_ext [idx t]

omit m c t in
/-- The two programs' results are equal, from memories that agree on the arguments. -/
theorem algebraic : Cert.algebraic_OProjIdeal_OProjRefIdeal := by
  intro m g m' g' _ hagree
  refine ⟨fun c => (dats m 0 c).arrAt 5 cfg0.N, fun c => (dats m 0 c).arrAt 6 cfg0.N, Value.run_blocks m g,
    (θ_run _ _ _).mono (fun r h c => ⟨(h c).1.trans ?_, (h c).2.1.trans ?_, (h c).2.2⟩) (Cert.OProjRefIdeal.Value.run m' g')⟩
  all_goals
    clear h
    obtain ⟨h0, h1, h2, h3, h4⟩ := hagree c
    simp only [h0, h1, h2, h3, h4]
    symm
  · refine (dats m 0 c).arrAt_eq_of_covers 5 _ (by decide +kernel) fun t hf y => ?_
    blk_simp; rw [after0_5]; frame_out
    refine (resid m c t _ _ _ _ rfl rfl rfl rfl y (win0_5.blk t |>.view.emb y 0) (win0_5.blk t |>.view.emb y 1) ?_ ?_).trans ?_
    · blk_simp [idx t]
    · blk_simp [idx t]
    · pointwise
  · refine (dats m 0 c).arrAt_eq_of_covers 6 _ (by decide +kernel) fun t hf y => ?_
    blk_simp; rw [after0_6]; frame_out
    obtain ⟨r, hr, hz⟩ : ∃ r : Fin 4096, r.val = t.val * 512 + y 0 ∧ (win0_6.blk t).view.emb y = ix2 r (y 1) :=
      ⟨(win0_6.blk t).view.emb y 0, by blk_simp [idx t], (ix2_eta _).symm.trans (congrArg _ (Fin.ext (by blk_simp [idx t])))⟩
    refine Eq.trans ?_ (congrArg _ hz.symm)
    pointwise [k0_pay2]
    simp only [scale_row m c t, scale_row m c t (y 1), resid m c t _ _ _ _ rfl rfl rfl rfl y r (y 1) hr rfl,
      fun x => resid m c t _ _ _ _ rfl rfl rfl rfl (ix2 (y 0) x) r x hr rfl]

end Cert.OProjIdeal.Hand

end
-- ==== Proof.QkvProj.lean ====
/- The attention's projections with their bias: each block of the kernel's rows is the reference's rows. -/
module

public import proofs.«01_k».proof.Defs
public import proofs.«01_k».proof.Proof.Gen.QkvProjIdeal.Value
public import proofs.«01_k».proof.Proof.Gen.QkvProjRefIdeal.Run
public import proofs.«01_k».proof.Proof.Common
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.QkvProjIdeal.Hand

open Cert.Common Cert.QkvProjIdeal Cert.QkvProjIdeal.Gen

/-- Every window's block index at every grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The two programs' results are equal, from memories that agree on the arguments. -/
theorem algebraic : Cert.algebraic_QkvProjIdeal_QkvProjRefIdeal := by
  intro m g m' g' _ hagree
  refine ⟨fun c => (dats m 0 c).arrAt 3 cfg0.N, Value.run_blocks m g,
    (θ_run _ _ _).mono (fun r h c => ⟨(h c).1.trans ?_, (h c).2⟩) (Cert.QkvProjRefIdeal.Value.run m' g')⟩
  clear h
  obtain ⟨h0, h1, h2⟩ := hagree c
  rw [h0, h1, h2]
  symm
  refine (dats m 0 c).arrAt_eq_of_covers 3 _ (by decide +kernel) fun t hf y => ?_
  blk_simp; rw [after0_3]; frame_out
  pointwise [k0_pay1]
  blk_point [iblk, V, idx t]

end Cert.QkvProjIdeal.Hand

end
-- ==== Proof.AttnHead.lean ====
/- One block of the attention's forward pass: a head's result from its probabilities, on the tiles that the backward
   pass starts from too. -/
module

public import proofs.«01_k».proof.Proof.AttnStep

@[expose] public section

set_option maxRecDepth 16384

noncomputable section

open Idealize.ShloMosaic Idealize.ShloMosaic.TcCoe
open scoped BigOperators

/-- A head's result. -/
def Cert.Attn.Head.out (H : Cert.Attn.Head) (t : Fin 4096) (d : Fin 64) : EReal := ∑ s, H.v s d * H.prob t s

namespace Cert.AttnBwdIdeal.Hand

open Cert.AttnBwdIdeal Cert.AttnBwdIdeal.Gen Cert.Attn

/-- Probabilities by values. -/
def pv (x : Tile8) (v : Tile) : Tile8 :=
  matmul dot_S1024x128_S128x128_S1024x128_1_0_0_1_n_n none (lo8 x) (lo v) (constant S1024x128 .f32 0x00000000#32)

theorem pv_at (x : Tile8) (v : Tile) (r : Fin 1024) (l : Fin 128) : pv x v (ix2 r l) = ∑ c : Fin 128, x (ix2 r c) * v (ix2 c l) := by
  pointwise [pv, lo, lo8]

namespace Reads
variable (R : Reads)

/-- The results of a group's heads, twice. -/
def o8 (g : Fin 2) : Tile8 :=
  addf (pv (select k0_pay7 (heads (R.p g)) zt8) (both g R.vc)) (pv (select k0_pay7 zt8 (heads (R.p g))) (both g R.vp))
/-- The result: one column block, of the heads `a` and `b` of a group. -/
def out (g : Fin 2) (a b : Fin 8) : Tile := select k0_pay5 (rows (R.o8 g) a) (rows (R.o8 g) b)
end Reads

variable {R : Reads} {H : Fin 2 → Fin 8 → Head} {n : Fin 32} (g : Fin 2) (h : Fin 8) (i l : Fin 128) (F : Fits R H n)
include F

theorem o8_at (hd : ∀ g h t, (H g h).den t ≠ 0) (d : Fin 64) (hl : l.val % 64 = d.val) :
    R.o8 g (ix2 (row8 h i) l) = (H g h).out (pos n i) d := by
  have e : R.o8 g (ix2 (row8 h i) l) = pv (select k0_pay7 (heads (R.p g)) zt8) (both g R.vc) (ix2 (row8 h i) l)
      + pv (select k0_pay7 zt8 (heads (R.p g))) (both g R.vp) (ix2 (row8 h i) l) := by
    unfold Reads.o8
    generalize pv _ _ = x
    generalize pv _ _ = y
    pointwise
  rw [e, pv_at, pv_at, add_comm]
  unfold Head.out
  rw [← sum_parts n i (fun s => (H g h).v s d * (H g h).prob (pos n i) s) fun s hs => by
    rw [Head.prob_off _ _ _ (hd _ _ _) hs, mul_zero]]
  refine congrArg₂ (· + ·) (Finset.sum_congr rfl fun c _ => ?_) (Finset.sum_congr rfl fun c _ => ?_)
  · rw [prevP_at g h i c F (hd _ _ _), both_at g R.vp c l ⟨g.val * 64 + d.val, by omega⟩ (by dsimp only; omega), F.vp g h]
    split
    · rw [zero_mul]
    · rw [mul_comm]
  · rw [curP_at g h i c F (hd _ _ _), both_at g R.vc c l ⟨g.val * 64 + d.val, by omega⟩ (by dsimp only; omega), F.vc g h, mul_comm]

/-- A column block of the result. -/
theorem out_block (hd : ∀ g h t, (H g h).den t ≠ 0) (a b : Fin 8) (d : Fin 64) (hl : l.val % 64 = d.val) :
    R.out g a b (ix2 i l) = (H g (if l.val < 64 then a else b)).out (pos n i) d := by
  have e : R.out g a b (ix2 i l) = if l.val < 64 then rows (R.o8 g) a (ix2 i l) else rows (R.o8 g) b (ix2 i l) := by
    unfold Reads.out
    pointwise [left_at]
    split <;> rfl
  rw [e, rows_at, rows_at, o8_at g a i l F hd d hl, o8_at g b i l F hd d hl]
  split <;> rfl

end Cert.AttnBwdIdeal.Hand

end
-- ==== Proof.AttnFwdOut.lean ====
/- What a step of the attention's forward pass reads and writes, as the operations on tiles. -/
module

public import proofs.«01_k».proof.Defs
public import proofs.«01_k».proof.Proof.Gen.AttnFwdIdeal.Value
public import Idealize.ShloMosaic.Lib.Pipeline.ValueKit
public import Idealize.ShloMosaic.Lib.Pipeline.ReadBack
public import proofs.«01_k».proof.Proof.AttnHead

@[expose] public section

set_option maxRecDepth 16384

noncomputable section

open Idealize.ShloMosaic Idealize.ShloMosaic.TcCoe Idealize.SL.Sem
open scoped BigOperators

namespace Cert.AttnFwdIdeal.Hand

open Cert.AttnFwdIdeal Cert.AttnFwdIdeal.Gen Cert.Attn
open Cert.AttnBwdIdeal.Hand

variable (m : (ℓ : Loc nD τ sig) → Buf (Elt Ideal) ℓ)

theorem inbCol (p : Fin 8) : ∀ a, (![0, 128 * p.val] : Fin 2 → Nat) a + S128x128.size a ≤ S128x1024.size a := by
  revert p; decide

/-- What step `t` reads; the result's gradient is none of it. -/
def reads (c : Dev nD) (t : Fin cfg0.N) : Reads where
  q p := View.ld (X0_0 m c t) (Rect.unit ![0, 128 * p.val] ![128, 128] (inbCol p))
  kp := iblk m c 1 t
  kc := iblk m c 2 t
  vp := iblk m c 3 t
  vc := iblk m c 4 t
  sink := k0_pay3 (iblk m c 5 t)
  d _ := fun _ => 0
  first := Scalar.cmpi CmpIPredicate.eq (BitVec.ofNat 32 ↑(grid0.coords t 0)) 0#32

/-- The block a step writes. -/
def outBlock (R : Reads) : Vec Ideal S128x1024 .bf16 :=
  View.canon [
    ⟨Rect.unit ![0, 896] ![128, 128] inb_S128x1024_S128x128_0_896, lo (R.out 1 6 7)⟩,
    ⟨Rect.unit ![0, 768] ![128, 128] inb_S128x1024_S128x128_0_768, lo (R.out 1 4 5)⟩,
    ⟨Rect.unit ![0, 640] ![128, 128] inb_S128x1024_S128x128_0_640, lo (R.out 1 2 3)⟩,
    ⟨Rect.unit ![0, 512] ![128, 128] inb_S128x1024_S128x128_0_512, lo (R.out 1 0 1)⟩,
    ⟨Rect.unit ![0, 384] ![128, 128] inb_S128x1024_S128x128_0_384, lo (R.out 0 6 7)⟩,
    ⟨Rect.unit ![0, 256] ![128, 128] inb_S128x1024_S128x128_0_256, lo (R.out 0 4 5)⟩,
    ⟨Rect.unit ![0, 128] ![128, 128] inb_S128x1024_S128x128_0_128, lo (R.out 0 2 3)⟩,
    ⟨Rect.unit ![0, 0] ![128, 128] inb_S128x1024_S128x128_0_0, lo (R.out 0 0 1)⟩]

set_option maxHeartbeats 4000000 in
theorem out_eq (c : Dev nD) (t : Fin cfg0.N) : outsAt0 m c t = outBlock (reads m c t) := by
  generalize hX : outBlock _ = X
  unfold outsAt0
  frame_out
  rw [← hX]
  clear hX X
  dsimp only [outBlock, Reads.out, Reads.o8, pv, Reads.p, Reads.sc, Reads.sk, split8, split, both, heads, cat8, rows, halfL, halfR, rot,
    scale, zt, zt8, lo, lo8, nt, spread, score, sinkOf, sinkCol, rowSum, rowMax, pexp, den, prob, reads]
  rfl

/-- Every window's block index at every grid point. -/
theorem idx : ∀ t : Fin cfg0.N, win0_0.index t = ![t.val, 0]
    ∧ win0_1.index t = ![t.val - 1, 8]
    ∧ win0_2.index t = ![t.val, 8]
    ∧ win0_3.index t = ![t.val - 1, 9]
    ∧ win0_4.index t = ![t.val, 9]
    ∧ win0_5.index t = ![0, 0]
    ∧ win0_6.index t = ![t.val, 0] :=
  (by decide +kernel : ∀ t : Fin grid0.N, _)

/-- The block a step handles. -/
abbrev blkOf (t : Fin cfg0.N) : Fin 32 := t

/-- Only the first step has no block before. -/
theorem first_at : ∀ t : Fin cfg0.N, Scalar.cmpi CmpIPredicate.eq (BitVec.ofNat 32 ↑(grid0.coords t 0)) 0#32
    = if t.val = 0 then 1#1 else 0#1 :=
  (by decide +kernel : ∀ t : Fin grid0.N, _)

variable (c : Dev nD) (t : Fin cfg0.N)

/-- The queries' rows. -/
theorem q_read (p : Fin 8) (i l : Fin 128) :
    (reads m c t).q p (ix2 i l) = (m ((c : Thread nD τ).loc main_arg0) : FVec Ideal S4096x1280 .f32) (ix2 (pos (blkOf t) i) ⟨p.val * 128 + l.val, by omega⟩) := by
  dsimp only [reads]
  rw [View.ld_apply]
  unfold X0_0 Pipeline.Window.fill
  rw [dif_pos (moved0_0 t _)]
  blk_simp [iblk, V_main_arg0, idx t]
  blk_ext [idx t, pos, blkOf]
  · simp
  · simp [Nat.mul_comm]

/-- The sinks as the call receives them, beside lanes of zeros. -/
theorem sink_entry : V m c main_v0
    = pad S1x128 ![0, 0] ![0, 112] ![0, 0] (m ((c : Thread nD τ).loc main_arg1) : FVec Ideal S1x16 .f32)
      (sitofp .f32 (constantI S_ 32 0#32) : FVec Ideal S_ .f32) pads_S1x16_S1x128_000_01120 h_S_ := by
  rfl

theorem sink_read (l : Fin 16) :
    (reads m c t).sink (ix2 0 ⟨l.val, by omega⟩) = (m ((c : Thread nD τ).loc main_arg1) : FVec Ideal S1x16 .f32) (ix2 0 l) := by
  dsimp only [reads]
  generalize hX : iblk m c 5 t = X
  pointwise [k0_pay3]
  subst hX
  blk_simp [iblk, idx t]
  rw [sink_entry]
  pointwise
  rw [dif_pos (by
    blk_simp [idx t]
    show ∀ a : Fin 2, _
    refine Fin.forall_fin_two.2 ⟨⟨?_, ?_, ?_⟩, ?_, ?_, ?_⟩ <;> simp <;> first | exact l.isLt | omega)]
  blk_ext [idx t]

/-- What a step reads is its block of the heads. -/
theorem fits (A : FVec Ideal S4096x1280 .f32) (B : FVec Ideal S1x16 .f32)
    (hA : m ((c : Thread nD τ).loc main_arg0) = A) (hB : m ((c : Thread nD τ).loc main_arg1) = B) :
    Fits (reads m c t) (head A B fun _ => 0) (blkOf t) where
  q g h i d := by
    subst hA
    exact (q_read m c t _ _ _).trans (congrArg (fun x => (m ((c : Thread nD τ).loc main_arg0) : FVec Ideal S4096x1280 .f32) (ix2 _ x)) (Fin.ext (by dsimp only; omega)))
  d _ _ _ _ := rfl
  kc g h i d := by
    subst hA
    dsimp only [reads, head]
    blk_simp [iblk, V_main_arg0, idx t]
    blk_ext [idx t, pos, blkOf]
  kp g h i d := by
    subst hA
    dsimp only [reads, head]
    blk_simp [iblk, V_main_arg0, idx t]
    blk_ext [idx t, pos, blkOf, prevb]
  vc g h i d := by
    subst hA
    dsimp only [reads, head]
    blk_simp [iblk, V_main_arg0, idx t]
    blk_ext [idx t, pos, blkOf]
  vp g h i d := by
    subst hA
    dsimp only [reads, head]
    blk_simp [iblk, V_main_arg0, idx t]
    blk_ext [idx t, pos, blkOf, prevb]
  sink g h := by
    subst hB
    exact (sink_read m c t ⟨8 * g.val + h.val, by omega⟩).trans
      (congrArg (fun x => (m ((c : Thread nD τ).loc main_arg1) : FVec Ideal S1x16 .f32) (ix2 0 x)) (Fin.ext (by dsimp only; omega)))
  first := first_at t

end Cert.AttnFwdIdeal.Hand

end
-- ==== Proof.AttnFwdRef.lean ====
/- The reference's attention, entry by entry: its probabilities are those that the backward reference names. -/
module

public import proofs.«01_k».proof.Defs
public import proofs.«01_k».proof.Proof.Gen.AttnFwdRefIdeal.Run
public import proofs.«01_k».proof.Proof.AttnRef
public import proofs.«01_k».proof.Proof.AttnHead

@[expose] public section

set_option maxRecDepth 16384

noncomputable section

namespace Cert.AttnFwdRefIdeal.Hand

open Idealize.ShloMosaic Idealize.ShloMosaic.TcCoe Idealize.SL.Sem Idealize.ShloMosaic.StableHlo Cert.Attn
open Cert.AttnFwdRefIdeal Cert.AttnFwdRefIdeal.Gen Cert.AttnFwdRefIdeal.Value
open scoped BigOperators

/-- The result from the probabilities and the values. -/
def ofProb (p : FVec Ideal S2x8x4096x4096 .f32) (v : FVec Ideal S4096x2x64 .f32) : FVec Ideal S4096x1024 .bf16 :=
  truncf .bf16 (shapeCast S4096x1024 (transpose S4096x2x8x64 [3, 0, 2, 1]
    (Host.dotGeneral dot_S4096x2x64_S2x8x4096x4096_S2x64x8x4096_0_3_2_12_1_0 none v p) transposes_S2x64x8x4096_S4096x2x8x64_3_0_2_1)
    shapeCasts_S4096x2x8x64_S4096x1024) bitsLt_bf16_f32

theorem ofProb_at (p : FVec Ideal S2x8x4096x4096 .f32) (v : FVec Ideal S4096x2x64 .f32) (g : Fin 2) (h : Fin 8) (t : Fin 4096) (d : Fin 64) :
    ofProb p v (ix2 t ⟨g.val * 512 + h.val * 64 + d.val, by omega⟩) = ∑ s, v (ix3 s g d) * p (ix4 g h t s) := by
  pointwise [ofProb]

variable (m : (ℓ : Loc nD τ sig) → Buf (Elt Ideal) ℓ) (c : Dev nD)

set_option maxHeartbeats 2000000 in
/-- The result in the backward reference's terms. -/
theorem named (V : Valuation Cert.AttnBwdRefIdeal.τ Cert.AttnBwdRefIdeal.sig (Elt Ideal))
    (hA : V (Proc.devRef .tc Cert.AttnBwdRefIdeal.main_arg0) = m ((c : Thread nD τ).loc main_arg0))
    (hB : V (Proc.devRef .tc Cert.AttnBwdRefIdeal.main_arg1) = m ((c : Thread nD τ).loc main_arg1)) :
    res_out0 m c = ofProb (Cert.AttnBwdRefIdeal.Value.res_main_v54 V) (Cert.AttnBwdRefIdeal.Value.res_main_v5 V) := by
  unfold res_out0 res_main_v44 ofProb
  open Cert.AttnBwdRefIdeal.Value in
  dsimp only [res_main_v54, Cert.AttnBwdRefIdeal.Value.res_main_v5, res_main_v46, res_main_v52, res_main_v51, res_main_v34, res_main_v32, res_main_v26,
    res_main_v25, res_main_v23_0, res_main_v23_1, res_main_v13, res_main_v11, res_main_v4, res_main_v3]
  rw [hA, hB]
  rfl

/-- Values of the backward reference's buffers that hold three given arguments. -/
theorem holds (A : FVec Ideal S4096x1280 .f32) (B : FVec Ideal S1x16 .f32) (C : FVec Ideal S4096x1024 .f32) :
    ∃ V : Valuation Cert.AttnBwdRefIdeal.τ Cert.AttnBwdRefIdeal.sig (Elt Ideal),
      V (Proc.devRef .tc Cert.AttnBwdRefIdeal.main_arg0) = A ∧ V (Proc.devRef .tc Cert.AttnBwdRefIdeal.main_arg1) = B
      ∧ V (Proc.devRef .tc Cert.AttnBwdRefIdeal.main_arg2) = C := by
  classical
  let a (r : Ref Cert.AttnBwdRefIdeal.sig .tc) : DevRef Cert.AttnBwdRefIdeal.τ Cert.AttnBwdRefIdeal.sig := Proc.devRef .tc r
  refine ⟨Function.update (Function.update (Function.update (fun _ _ => Classical.choice inferInstance)
    (a Cert.AttnBwdRefIdeal.main_arg0) A) (a Cert.AttnBwdRefIdeal.main_arg1) B) (a Cert.AttnBwdRefIdeal.main_arg2) C, ?_, ?_, ?_⟩
  · rw [Function.update_of_ne (by decide), Function.update_of_ne (by decide), Function.update_self]
  · rw [Function.update_of_ne (by decide), Function.update_self]
  · rw [Function.update_self]

/-- The reference's result, of head `h` of group `g`. -/
theorem res_at (A : FVec Ideal S4096x1280 .f32) (B : FVec Ideal S1x16 .f32)
    (hA : m ((c : Thread nD τ).loc main_arg0) = A) (hB : m ((c : Thread nD τ).loc main_arg1) = B)
    (g : Fin 2) (h : Fin 8) (t : Fin 4096) (d : Fin 64) :
    (res_out0 m c : FVec Ideal S4096x1024 .bf16) (ix2 t ⟨g.val * 512 + h.val * 64 + d.val, by omega⟩) = (head A B (fun _ => 0) g h).out t d := by
  obtain ⟨V, vA, vB, vC⟩ := holds A B fun _ => 0
  rw [named m c V (vA.trans hA.symm) (vB.trans hB.symm), ofProb_at]
  exact Finset.sum_congr (M := EReal) rfl fun s _ => congrArg₂ (fun x y : EReal => x * y)
    (Cert.AttnBwdRefIdeal.Hand.v_at V A B _ vA vB vC g h s d) (Cert.AttnBwdRefIdeal.Hand.prob_at V A B _ vA vB vC g h t s)

end Cert.AttnFwdRefIdeal.Hand

end
-- ==== Proof.AttnFwd.lean ====
/- The sliding-window attention with a sink per head: the kernel's result is the reference's. -/
module

public import proofs.«01_k».proof.Defs
public import proofs.«01_k».proof.Proof.AttnFwdOut
public import proofs.«01_k».proof.Proof.AttnFwdRef
public import proofs.«01_k».proof.Proof.AttnBwd

@[expose] public section

set_option maxRecDepth 16384

noncomputable section

open Idealize.ShloMosaic Idealize.ShloMosaic.TcCoe Idealize.SL.Sem
open Idealize.ShloMosaic.Pipeline (Dat)
open scoped BigOperators

namespace Cert.AttnFwdIdeal.Hand

open Cert.AttnFwdIdeal Cert.AttnFwdIdeal.Gen Cert.Attn
open Cert.AttnBwdIdeal.Hand (Reads Fits lo real_of out_block)

variable {R : Reads} {H : Fin 2 → Fin 8 → Head} {n : Fin 32} (F : Fits R H n) (hd : ∀ g h t, (H g h).den t ≠ 0)
  {y : S128x1024.Idx} {v : EReal}
  (hv : ∀ (g : Fin 2) (h : Fin 8) (d : Fin 64), (y 1).val = g.val * 512 + h.val * 64 + d.val → (H g h).out (pos n (y 0)) d = v)
include F hd hv

/-- A column block of a step's block. -/
theorem piece (g : Fin 2) (a b : Fin 8) (hab : b.val = a.val + 1) (x : S128x128.Idx) (h0 : (y 0).val = (x 0).val)
    (h1 : (y 1).val = (g.val * 512 + a.val * 64) + (x 1).val) : lo (R.out g a b) x = v := by
  have hx : (x 1).val < 128 := (x 1).isLt
  have e0 : y 0 = x 0 := Fin.ext h0
  have e : lo (R.out g a b) x = R.out g a b (ix2 (x 0) (x 1)) := congrArg (R.out g a b) (ix2_eta x).symm
  rw [e, out_block g (x 0) (x 1) F hd a b ⟨(x 1).val % 64, by omega⟩ rfl, ← e0]
  refine hv g _ _ ?_
  split_ifs <;> dsimp only <;> omega

/-- A step's block at an index. -/
theorem block_at : outBlock R y = v := by
  unfold outBlock
  canon_tiles x hx
  · exact piece F hd hv 1 6 7 rfl x hx0 (hx1.trans (congrArg (· + (x 1).val) (by decide)))
  · exact piece F hd hv 1 4 5 rfl x hx0 (hx1.trans (congrArg (· + (x 1).val) (by decide)))
  · exact piece F hd hv 1 2 3 rfl x hx0 (hx1.trans (congrArg (· + (x 1).val) (by decide)))
  · exact piece F hd hv 1 0 1 rfl x hx0 (hx1.trans (congrArg (· + (x 1).val) (by decide)))
  · exact piece F hd hv 0 6 7 rfl x hx0 (hx1.trans (congrArg (· + (x 1).val) (by decide)))
  · exact piece F hd hv 0 4 5 rfl x hx0 (hx1.trans (congrArg (· + (x 1).val) (by decide)))
  · exact piece F hd hv 0 2 3 rfl x hx0 (hx1.trans (congrArg (· + (x 1).val) (by decide)))
  · exact piece F hd hv 0 0 1 rfl x hx0 (hx1.trans (Nat.zero_add _).symm)

omit F hd hv
variable (m : (ℓ : Loc nD τ sig) → Buf (Elt Ideal) ℓ) (c : Dev nD)

/-- The result after the run is the reference's. -/
theorem final (A : FVec Ideal S4096x1280 .f32) (B : FVec Ideal S1x16 .f32)
    (hA : m ((c : Thread nD τ).loc main_arg0) = A) (hB : m ((c : Thread nD τ).loc main_arg1) = B)
    (hd : ∀ g h t, (head A B (fun _ => 0) g h).den t ≠ 0) (Z : FVec Ideal S4096x1024 .bf16)
    (hZ : ∀ (g : Fin 2) (h : Fin 8) t (d : Fin 64), Z (ix2 t ⟨g.val * 512 + h.val * 64 + d.val, by omega⟩) = (head A B (fun _ => 0) g h).out t d) :
    (dats m 0 c).arrAt 6 cfg0.N = Z := by
  refine (dats m 0 c).arrAt_eq_of_covers 6 _ (by decide +kernel) fun t hf' y => ?_
  blk_simp; rw [after0_6, out_eq]
  obtain ⟨r, q, hz, hr, hq⟩ : ∃ (r : Fin 4096) (q : Fin 1024), (win0_6.blk t).view.emb y = ix2 r q ∧ r = pos (blkOf t) (y 0) ∧ q.val = (y 1).val := by
    refine ⟨_, _, (ix2_eta _).symm, Fin.ext ?_, ?_⟩
    · blk_simp [idx t, pos, blkOf]
    · blk_simp [idx t]
  refine (block_at (fits m c t A B hA hB) hd fun g h d hy => ?_).trans (congrArg Z hz.symm)
  rw [← hZ, ← hr]
  exact congrArg (fun z => Z (ix2 r z)) (Fin.ext (hy.symm.trans hq.symm))

/-- An entry of the columns of queries and keys. -/
theorem entry_of (X : FVec Ideal S4096x1280 .f32) (hs : S4096x1280.Slices ![0, 0] (⟨2, ![4096, 1152]⟩ : Shape)) (t : Fin 4096) (l : Fin 1152)
    (h : ∃ r : ℝ, extractStridedSlice (⟨2, ![4096, 1152]⟩ : Shape) ![0, 0] X hs (ix2 t l) = (r : EReal)) :
    ∃ r : ℝ, X (ix2 t ⟨l.val, by omega⟩) = (r : EReal) := by
  obtain ⟨r, e⟩ := h
  refine ⟨r, Eq.trans ?_ e⟩
  pointwise

section
variable [Cert.Pre_finite_qk.Facts]

/-- No denominator is zero where the queries, keys and sinks are finite: the values play no part in it. -/
theorem dens (h : Pre_AttnFwdIdeal_finite_qk m) (g : Fin 2) (k : Fin 8) (t : Fin 4096) :
    (head (m ((c : Thread nD τ).loc main_arg0)) (m ((c : Thread nD τ).loc main_arg1)) (fun _ => 0) g k).den t ≠ 0 := by
  obtain ⟨a, b⟩ := h c
  have col (t : Fin 4096) (l : Fin 1152) := entry_of _ _ t l (real_of _ _ (ix2 t l) (congrFun a _))
  exact Head.den_ne (H := { head (m ((c : Thread nD τ).loc main_arg0)) (m ((c : Thread nD τ).loc main_arg1)) (fun _ => 0) g k with v := fun _ _ => 0 })
    ⟨fun t d => col t ⟨g.val * 512 + k.val * 64 + d.val, by omega⟩, fun t d => col t ⟨1024 + (g.val * 64 + d.val), by omega⟩,
      fun _ _ => ⟨0, rfl⟩, fun _ _ => ⟨0, rfl⟩, real_of _ _ _ (congrFun b _)⟩ t

end

/-- The two programs' results are equal, from memories that agree, where queries, keys and sinks are finite. -/
theorem algebraic [Cert.Pre_finite_qk.Facts] : Cert.algebraic_AttnFwdIdeal_AttnFwdRefIdeal_pre_finite_qk := by
  intro m g m' g' hpre hagree
  refine ⟨fun c => (dats m 0 c).arrAt 6 cfg0.N,
    (θ_run _ _ _).mono (fun r h c => ⟨(h c).1, (h c).2⟩) (Value.run_blocks m g),
    (θ_run _ _ _).mono (fun r h c => ?_) (Cert.AttnFwdRefIdeal.Value.run m' g')⟩
  obtain ⟨h0, h1⟩ := hagree c
  refine ⟨(h c).1.trans ?_, (h c).2⟩
  exact (final m c _ _ rfl rfl (dens m c hpre) _ fun g k t d => Cert.AttnFwdRefIdeal.Hand.res_at m' c _ _ h0 h1 g k t d).symm

end Cert.AttnFwdIdeal.Hand

end
-- ==== Proof.lean ====
module

public import proofs.«01_k».proof.Defs
public import proofs.«01_k».proof.Proof.Gen.MlpDa
public import proofs.«01_k».proof.Proof.Gen.MlpDa.Skeleton
public import proofs.«01_k».proof.Proof.Gen.MlpDa.Launch
public import proofs.«01_k».proof.Proof.Gen.MlpDa.Points
public import proofs.«01_k».proof.Proof.Gen.MlpDa.Frame
public import proofs.«01_k».proof.Proof.Gen.MlpDaIdeal
public import proofs.«01_k».proof.Proof.Gen.MlpDaIdeal.Skeleton
public import proofs.«01_k».proof.Proof.Gen.MlpDaIdeal.Launch
public import proofs.«01_k».proof.Proof.Gen.MlpDaIdeal.Points
public import proofs.«01_k».proof.Proof.Gen.MlpDaIdeal.Frame
public import proofs.«01_k».proof.Proof.Gen.MlpDaRefIdeal
public import proofs.«01_k».proof.Proof.Gen.MlpDy
public import proofs.«01_k».proof.Proof.Gen.MlpDy.Skeleton
public import proofs.«01_k».proof.Proof.Gen.MlpDy.Launch
public import proofs.«01_k».proof.Proof.Gen.MlpDy.Points
public import proofs.«01_k».proof.Proof.Gen.MlpDy.Frame
public import proofs.«01_k».proof.Proof.Gen.MlpDyIdeal
public import proofs.«01_k».proof.Proof.Gen.MlpDyIdeal.Skeleton
public import proofs.«01_k».proof.Proof.Gen.MlpDyIdeal.Launch
public import proofs.«01_k».proof.Proof.Gen.MlpDyIdeal.Points
public import proofs.«01_k».proof.Proof.Gen.MlpDyIdeal.Frame
public import proofs.«01_k».proof.Proof.Gen.MlpDyRefIdeal
public import proofs.«01_k».proof.Proof.Gen.DyQkv
public import proofs.«01_k».proof.Proof.Gen.DyQkv.Skeleton
public import proofs.«01_k».proof.Proof.Gen.DyQkv.Launch
public import proofs.«01_k».proof.Proof.Gen.DyQkv.Points
public import proofs.«01_k».proof.Proof.Gen.DyQkv.Frame
public import proofs.«01_k».proof.Proof.Gen.DyQkvIdeal
public import proofs.«01_k».proof.Proof.Gen.DyQkvIdeal.Skeleton
public import proofs.«01_k».proof.Proof.Gen.DyQkvIdeal.Launch
public import proofs.«01_k».proof.Proof.Gen.DyQkvIdeal.Points
public import proofs.«01_k».proof.Proof.Gen.DyQkvIdeal.Frame
public import proofs.«01_k».proof.Proof.Gen.DyQkvRefIdeal
public import proofs.«01_k».proof.Proof.Gen.DyIn
public import proofs.«01_k».proof.Proof.Gen.DyIn.Skeleton
public import proofs.«01_k».proof.Proof.Gen.DyIn.Launch
public import proofs.«01_k».proof.Proof.Gen.DyIn.Points
public import proofs.«01_k».proof.Proof.Gen.DyIn.Frame
public import proofs.«01_k».proof.Proof.Gen.DyInIdeal
public import proofs.«01_k».proof.Proof.Gen.DyInIdeal.Skeleton
public import proofs.«01_k».proof.Proof.Gen.DyInIdeal.Launch
public import proofs.«01_k».proof.Proof.Gen.DyInIdeal.Points
public import proofs.«01_k».proof.Proof.Gen.DyInIdeal.Frame
public import proofs.«01_k».proof.Proof.Gen.DyInRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.MlpDwdown
public import proofs.«01_k».proof.Proof.Gen.MlpDwdown.Skeleton
public import proofs.«01_k».proof.Proof.Gen.MlpDwdown.Launch
public import proofs.«01_k».proof.Proof.Gen.MlpDwdown.Points
public import proofs.«01_k».proof.Proof.Gen.MlpDwdown.Frame
public import proofs.«01_k».proof.Proof.Gen.MlpDwdownIdeal
public import proofs.«01_k».proof.Proof.Gen.MlpDwdownIdeal.Skeleton
public import proofs.«01_k».proof.Proof.Gen.MlpDwdownIdeal.Launch
public import proofs.«01_k».proof.Proof.Gen.MlpDwdownIdeal.Points
public import proofs.«01_k».proof.Proof.Gen.MlpDwdownIdeal.Frame
public import proofs.«01_k».proof.Proof.Gen.MlpDwdownRefIdeal
public import proofs.«01_k».proof.Proof.Gen.MixNorm
public import proofs.«01_k».proof.Proof.Gen.MixNorm.Skeleton
public import proofs.«01_k».proof.Proof.Gen.MixNorm.Launch
public import proofs.«01_k».proof.Proof.Gen.MixNorm.Points
public import proofs.«01_k».proof.Proof.Gen.MixNorm.Frame
public import proofs.«01_k».proof.Proof.Gen.MixNormIdeal
public import proofs.«01_k».proof.Proof.Gen.MixNormIdeal.Skeleton
public import proofs.«01_k».proof.Proof.Gen.MixNormIdeal.Launch
public import proofs.«01_k».proof.Proof.Gen.MixNormIdeal.Points
public import proofs.«01_k».proof.Proof.Gen.MixNormIdeal.Frame
public import proofs.«01_k».proof.Proof.Gen.MixNormRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownRefIdeal
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.QkvProj
public import proofs.«01_k».proof.Proof.Gen.QkvProj.Skeleton
public import proofs.«01_k».proof.Proof.Gen.QkvProj.Launch
public import proofs.«01_k».proof.Proof.Gen.QkvProj.Points
public import proofs.«01_k».proof.Proof.Gen.QkvProj.Frame
public import proofs.«01_k».proof.Proof.Gen.QkvProjIdeal
public import proofs.«01_k».proof.Proof.Gen.QkvProjIdeal.Skeleton
public import proofs.«01_k».proof.Proof.Gen.QkvProjIdeal.Launch
public import proofs.«01_k».proof.Proof.Gen.QkvProjIdeal.Points
public import proofs.«01_k».proof.Proof.Gen.QkvProjIdeal.Frame
public import proofs.«01_k».proof.Proof.Gen.QkvProjRefIdeal
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.Pre_finite_attn
public import proofs.«01_k».proof.Proof.Gen.Pre_finite_qk
public import proofs.«01_k».proof.Proof.MlpDa
public import proofs.«01_k».proof.Proof.MlpDy
public import proofs.«01_k».proof.Proof.DyQkv
public import proofs.«01_k».proof.Proof.DyIn
public import proofs.«01_k».proof.Proof.Loss
public import proofs.«01_k».proof.Proof.AttnBwd
public import proofs.«01_k».proof.Proof.MlpDwdown
public import proofs.«01_k».proof.Proof.MixNorm
public import proofs.«01_k».proof.Proof.OutProj
public import proofs.«01_k».proof.Proof.MlpDown
public import proofs.«01_k».proof.Proof.OProj
public import proofs.«01_k».proof.Proof.QkvProj
public import proofs.«01_k».proof.Proof.AttnFwd
public import Idealize.ShloMosaic.Lib.Quiescent
public import Idealize.ShloMosaic.Adequacy
public import Idealize.ShloMosaic.Init

@[expose] public section

noncomputable section

namespace Cert.Proof

open Idealize.ShloMosaic Idealize.SL.Sem Cert.MlpDa

/-- The reference MlpDa runs, and leaves its arguments and every counter as they are to be. -/
theorem ref_MlpDa : Cert.quiescent_MlpDaRefIdeal := fun m ρ _ =>
  (θ_run _ _ _).mono (fun r h => ⟨fun c => (h c).2, sem_eq_zero_of_no_sems (by decide) r.2⟩)
    (Cert.MlpDaRefIdeal.Value.run (F := Ideal) m ρ)

/-- The reference MlpDy runs, and leaves its arguments and every counter as they are to be. -/
theorem ref_MlpDy : Cert.quiescent_MlpDyRefIdeal := fun m ρ _ =>
  (θ_run _ _ _).mono (fun r h => ⟨fun c => (h c).2.2.2, sem_eq_zero_of_no_sems (by decide) r.2⟩)
    (Cert.MlpDyRefIdeal.Value.run (F := Ideal) m ρ)

/-- The reference DyQkv runs, and leaves its arguments and every counter as they are to be. -/
theorem ref_DyQkv : Cert.quiescent_DyQkvRefIdeal := fun m ρ _ =>
  (θ_run _ _ _).mono (fun r h => ⟨fun c => (h c).2.2, sem_eq_zero_of_no_sems (by decide) r.2⟩)
    (Cert.DyQkvRefIdeal.Value.run (F := Ideal) m ρ)

/-- The reference DyIn runs, and leaves its arguments and every counter as they are to be. -/
theorem ref_DyIn : Cert.quiescent_DyInRefIdeal := fun m ρ _ =>
  (θ_run _ _ _).mono (fun r h => ⟨fun c => (h c).2.2, sem_eq_zero_of_no_sems (by decide) r.2⟩)
    (Cert.DyInRefIdeal.Value.run (F := Ideal) m ρ)

/-- The reference Loss runs, and leaves its arguments and every counter as they are to be. -/
theorem ref_Loss : Cert.quiescent_LossRefIdeal := fun m ρ _ =>
  (θ_run _ _ _).mono (fun r h => ⟨fun c => (h c).2.2.2, sem_eq_zero_of_no_sems (by decide) r.2⟩)
    (Cert.LossRefIdeal.Value.run (F := Ideal) m ρ)

/-- The reference AttnBwd runs, and leaves its arguments and every counter as they are to be. -/
theorem ref_AttnBwd : Cert.quiescent_AttnBwdRefIdeal := fun m ρ _ =>
  (θ_run _ _ _).mono (fun r h => ⟨fun c => (h c).2, sem_eq_zero_of_no_sems (by decide) r.2⟩)
    (Cert.AttnBwdRefIdeal.Value.run (F := Ideal) m ρ)

/-- The reference MlpDwdown runs, and leaves its arguments and every counter as they are to be. -/
theorem ref_MlpDwdown : Cert.quiescent_MlpDwdownRefIdeal := fun m ρ _ =>
  (θ_run _ _ _).mono (fun r h => ⟨fun c => (h c).2, sem_eq_zero_of_no_sems (by decide) r.2⟩)
    (Cert.MlpDwdownRefIdeal.Value.run (F := Ideal) m ρ)

/-- The reference MixNorm runs, and leaves its arguments and every counter as they are to be. -/
theorem ref_MixNorm : Cert.quiescent_MixNormRefIdeal := fun m ρ _ =>
  (θ_run _ _ _).mono (fun r h => ⟨fun c => (h c).2, sem_eq_zero_of_no_sems (by decide) r.2⟩)
    (Cert.MixNormRefIdeal.Value.run (F := Ideal) m ρ)

/-- The reference OutProj runs, and leaves its arguments and every counter as they are to be. -/
theorem ref_OutProj : Cert.quiescent_OutProjRefIdeal := fun m ρ _ =>
  (θ_run _ _ _).mono (fun r h => ⟨fun c => (h c).2.2, sem_eq_zero_of_no_sems (by decide) r.2⟩)
    (Cert.OutProjRefIdeal.Value.run (F := Ideal) m ρ)

/-- The reference MlpDown runs, and leaves its arguments and every counter as they are to be. -/
theorem ref_MlpDown : Cert.quiescent_MlpDownRefIdeal := fun m ρ _ =>
  (θ_run _ _ _).mono (fun r h => ⟨fun c => (h c).2.2, sem_eq_zero_of_no_sems (by decide) r.2⟩)
    (Cert.MlpDownRefIdeal.Value.run (F := Ideal) m ρ)

/-- The reference OProj runs, and leaves its arguments and every counter as they are to be. -/
theorem ref_OProj : Cert.quiescent_OProjRefIdeal := fun m ρ _ =>
  (θ_run _ _ _).mono (fun r h => ⟨fun c => (h c).2.2, sem_eq_zero_of_no_sems (by decide) r.2⟩)
    (Cert.OProjRefIdeal.Value.run (F := Ideal) m ρ)

/-- The reference QkvProj runs, and leaves its arguments and every counter as they are to be. -/
theorem ref_QkvProj : Cert.quiescent_QkvProjRefIdeal := fun m ρ _ =>
  (θ_run _ _ _).mono (fun r h => ⟨fun c => (h c).2, sem_eq_zero_of_no_sems (by decide) r.2⟩)
    (Cert.QkvProjRefIdeal.Value.run (F := Ideal) m ρ)

/-- The reference AttnFwd runs, and leaves its arguments and every counter as they are to be. -/
theorem ref_AttnFwd : Cert.quiescent_AttnFwdRefIdeal := fun m ρ _ =>
  (θ_run _ _ _).mono (fun r h => ⟨fun c => (h c).2, sem_eq_zero_of_no_sems (by decide) r.2⟩)
    (Cert.AttnFwdRefIdeal.Value.run (F := Ideal) m ρ)

theorem claim : Cert.Claim := ⟨Cert.MlpDa.Gen.facts, Cert.MlpDaIdeal.Gen.facts, Cert.MlpDaRefIdeal.Gen.facts, Cert.MlpDy.Gen.facts, Cert.MlpDyIdeal.Gen.facts, Cert.MlpDyRefIdeal.Gen.facts, Cert.DyQkv.Gen.facts, Cert.DyQkvIdeal.Gen.facts, Cert.DyQkvRefIdeal.Gen.facts, Cert.DyIn.Gen.facts, Cert.DyInIdeal.Gen.facts, Cert.DyInRefIdeal.Gen.facts, Cert.Loss.Gen.facts, Cert.LossIdeal.Gen.facts, Cert.LossRefIdeal.Gen.facts, Cert.AttnBwd.Gen.facts, Cert.AttnBwdIdeal.Gen.facts, Cert.AttnBwdRefIdeal.Gen.facts, Cert.MlpDwdown.Gen.facts, Cert.MlpDwdownIdeal.Gen.facts, Cert.MlpDwdownRefIdeal.Gen.facts, Cert.MixNorm.Gen.facts, Cert.MixNormIdeal.Gen.facts, Cert.MixNormRefIdeal.Gen.facts, Cert.OutProj.Gen.facts, Cert.OutProjIdeal.Gen.facts, Cert.OutProjRefIdeal.Gen.facts, Cert.MlpDown.Gen.facts, Cert.MlpDownIdeal.Gen.facts, Cert.MlpDownRefIdeal.Gen.facts, Cert.OProj.Gen.facts, Cert.OProjIdeal.Gen.facts, Cert.OProjRefIdeal.Gen.facts, Cert.QkvProj.Gen.facts, Cert.QkvProjIdeal.Gen.facts, Cert.QkvProjRefIdeal.Gen.facts, Cert.AttnFwd.Gen.facts, Cert.AttnFwdIdeal.Gen.facts, Cert.AttnFwdRefIdeal.Gen.facts, Cert.Pre_finite_attn.Gen.facts, Cert.Pre_finite_qk.Gen.facts, by
  exact ⟨fun m ρ _ => Cert.MlpDa.Gen.frame m ρ,
    fun m ρ _ => Cert.MlpDaIdeal.Gen.frame m ρ,
    ref_MlpDa,
    fun m ρ _ => Cert.MlpDy.Gen.frame m ρ,
    fun m ρ _ => Cert.MlpDyIdeal.Gen.frame m ρ,
    ref_MlpDy,
    fun m ρ _ => Cert.DyQkv.Gen.frame m ρ,
    fun m ρ _ => Cert.DyQkvIdeal.Gen.frame m ρ,
    ref_DyQkv,
    fun m ρ _ => Cert.DyIn.Gen.frame m ρ,
    fun m ρ _ => Cert.DyInIdeal.Gen.frame m ρ,
    ref_DyIn,
    fun m ρ _ => Cert.Loss.Gen.frame m ρ,
    fun m ρ _ => Cert.LossIdeal.Gen.frame m ρ,
    ref_Loss,
    fun m ρ _ => Cert.AttnBwd.Gen.frame m ρ,
    fun m ρ _ => Cert.AttnBwdIdeal.Gen.frame m ρ,
    fun m ρ _ => Cert.AttnBwdIdeal.Gen.frame m ρ,
    ref_AttnBwd,
    fun m ρ _ => ref_AttnBwd m ρ trivial,
    fun m ρ _ => Cert.MlpDwdown.Gen.frame m ρ,
    fun m ρ _ => Cert.MlpDwdownIdeal.Gen.frame m ρ,
    ref_MlpDwdown,
    fun m ρ _ => Cert.MixNorm.Gen.frame m ρ,
    fun m ρ _ => Cert.MixNormIdeal.Gen.frame m ρ,
    ref_MixNorm,
    fun m ρ _ => Cert.OutProj.Gen.frame m ρ,
    fun m ρ _ => Cert.OutProjIdeal.Gen.frame m ρ,
    ref_OutProj,
    fun m ρ _ => Cert.MlpDown.Gen.frame m ρ,
    fun m ρ _ => Cert.MlpDownIdeal.Gen.frame m ρ,
    ref_MlpDown,
    fun m ρ _ => Cert.OProj.Gen.frame m ρ,
    fun m ρ _ => Cert.OProjIdeal.Gen.frame m ρ,
    ref_OProj,
    fun m ρ _ => Cert.QkvProj.Gen.frame m ρ,
    fun m ρ _ => Cert.QkvProjIdeal.Gen.frame m ρ,
    ref_QkvProj,
    fun m ρ _ => Cert.AttnFwd.Gen.frame m ρ,
    fun m ρ _ => Cert.AttnFwdIdeal.Gen.frame m ρ,
    fun m ρ _ => Cert.AttnFwdIdeal.Gen.frame m ρ,
    ref_AttnFwd,
    fun m ρ _ => ref_AttnFwd m ρ trivial,
    trivial,
    Cert.MlpDaIdeal.Hand.algebraic,
    trivial,
    Cert.MlpDyIdeal.Hand.algebraic,
    trivial,
    Cert.DyQkvIdeal.Hand.algebraic,
    trivial,
    Cert.DyInIdeal.Hand.algebraic,
    trivial,
    Cert.LossIdeal.Hand.algebraic,
    trivial,
    @Cert.AttnBwdIdeal.Hand.algebraic Cert.Pre_finite_attn.Gen.facts,
    trivial,
    Cert.MlpDwdownIdeal.Hand.algebraic,
    trivial,
    Cert.MixNormIdeal.Hand.algebraic,
    trivial,
    Cert.OutProjIdeal.Hand.algebraic,
    trivial,
    Cert.MlpDownIdeal.Hand.algebraic,
    trivial,
    Cert.OProjIdeal.Hand.algebraic,
    trivial,
    Cert.QkvProjIdeal.Hand.algebraic,
    trivial,
    @Cert.AttnFwdIdeal.Hand.algebraic Cert.Pre_finite_qk.Gen.facts⟩⟩

end Cert.Proof

end
